-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_classes [hPre_finite_and_classes : Cert.Pre_finite_and_classes.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_classes [hPre_finite_and_classes : Cert.Pre_finite_and_classes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_and_classes [hKernelIdeal : Cert.KernelIdeal.Facts] [hPre_finite_and_classes : Cert.Pre_finite_and_classes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_classes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_and_classes [hReferenceIdeal : Cert.ReferenceIdeal.Facts] [hPre_finite_and_classes : Cert.Pre_finite_and_classes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_classes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "margin_log2e" .f32 0x3F13BB63#32 (((13421773 / 33554432) * (Real.log 2)⁻¹ : ℝ) : EReal)

def algebraic_KernelIdeal_ReferenceIdeal_pre_finite_and_classes [hKernelIdeal : Cert.KernelIdeal.Facts] [hReferenceIdeal : Cert.ReferenceIdeal.Facts] [hPre_finite_and_classes : Cert.Pre_finite_and_classes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_classes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_and_classes : Cert.Pre_finite_and_classes.Facts),
    quiescent_Kernel (hKernel := hKernel)
    ∧ quiescent_KernelIdeal (hKernelIdeal := hKernelIdeal)
    ∧ quiescent_KernelIdeal_pre_finite_and_classes (hKernelIdeal := hKernelIdeal) (hPre_finite_and_classes := hPre_finite_and_classes)
    ∧ quiescent_ReferenceIdeal (hReferenceIdeal := hReferenceIdeal)
    ∧ quiescent_ReferenceIdeal_pre_finite_and_classes (hReferenceIdeal := hReferenceIdeal) (hPre_finite_and_classes := hPre_finite_and_classes)
    ∧ preserves_Kernel_KernelIdeal
    ∧ algebraic_KernelIdeal_ReferenceIdeal_pre_finite_and_classes (hKernelIdeal := hKernelIdeal) (hReferenceIdeal := hReferenceIdeal) (hPre_finite_and_classes := hPre_finite_and_classes)
-- ==== Pre_finite_and_classes.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x512 .f32) (main_arg1 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 32 := constantI S_ 32 128#32
  let main_v6 : IVec S8192 32 := broadcastInDim S8192 ![] bcast_S_S8192 main_c_1
  let main_v7 : IVec S8192 1 := cmpi .slt main_arg1 main_v6
  let main_v8 : IVec S8192 1 := andi main_v5 main_v7
  let main_c_2 : IVec S_ 1 := constantI S_ 1 1#1
  let main_v9 : IVec S_ 1 := (fun x v => Host.reduce IntOp.andi x v reducesTo_S8192_S_d0 h_S_) main_v8 main_c_2
  let main_v10 : IVec S_ 1 := andi main_v3 main_v9
  main_v10
-- ==== Kernel.lean ====
abbrev S8192x512 : Shape := ⟨2, ![8192, 512]⟩
abbrev S8192 : Shape := ⟨1, ![8192]⟩
abbrev S1x8192 : Shape := ⟨2, ![1, 8192]⟩
abbrev S8192x1 : Shape := ⟨2, ![8192, 1]⟩
abbrev S_ : Shape := ⟨0, ![]⟩
abbrev S512x8192 : Shape := ⟨2, ![512, 8192]⟩
abbrev S4x1x2048 : Shape := ⟨3, ![4, 1, 2048]⟩
abbrev S4x1x128 : Shape := ⟨3, ![4, 1, 128]⟩
abbrev S1x128 : Shape := ⟨2, ![1, 128]⟩
abbrev S8x1x1024 : Shape := ⟨3, ![8, 1, 1024]⟩
abbrev S2048x512 : Shape := ⟨2, ![2048, 512]⟩
abbrev S2048x1 : Shape := ⟨2, ![2048, 1]⟩
abbrev S1x1x2048 : Shape := ⟨3, ![1, 1, 2048]⟩
abbrev S1x1x128 : Shape := ⟨3, ![1, 1, 128]⟩
abbrev S1x512 : Shape := ⟨2, ![1, 512]⟩
abbrev S1x2048 : Shape := ⟨2, ![1, 2048]⟩
abbrev S2048x128 : Shape := ⟨2, ![2048, 128]⟩
abbrev S128 : Shape := ⟨1, ![128]⟩
abbrev S512x1024 : Shape := ⟨2, ![512, 1024]⟩
abbrev S1024x512 : Shape := ⟨2, ![1024, 512]⟩
abbrev S1x1024 : Shape := ⟨2, ![1, 1024]⟩
abbrev S1024x1 : Shape := ⟨2, ![1024, 1]⟩
abbrev S1x1x1024 : Shape := ⟨3, ![1, 1, 1024]⟩
abbrev S1024x1024 : Shape := ⟨2, ![1024, 1024]⟩
abbrev S1024 : Shape := ⟨1, ![1024]⟩

abbrev nBuf : Space → Nat
  | .hbm => 32
  | .vmem => 47
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S1x8192, .i32⟩
  | .hbm, ⟨3, _⟩ => ⟨S8192x1, .i32⟩
  | .hbm, ⟨4, _⟩ => ⟨S8192x512, .bf16⟩
  | .hbm, ⟨5, _⟩ => ⟨S_, .f32⟩
  | .hbm, ⟨6, _⟩ => ⟨S8192x512, .f32⟩
  | .hbm, ⟨7, _⟩ => ⟨S8192x512, .f32⟩
  | .hbm, ⟨8, _⟩ => ⟨S512x8192, .f32⟩
  | .hbm, ⟨9, _⟩ => ⟨S512x8192, .bf16⟩
  | .hbm, ⟨10, _⟩ => ⟨S4x1x2048, .f32⟩
  | .hbm, ⟨11, _⟩ => ⟨S4x1x2048, .f32⟩
  | .hbm, ⟨12, _⟩ => ⟨S4x1x128, .f32⟩
  | .hbm, ⟨13, _⟩ => ⟨S1x8192, .f32⟩
  | .hbm, ⟨14, _⟩ => ⟨S8192x1, .f32⟩
  | .hbm, ⟨15, _⟩ => ⟨S1x8192, .f32⟩
  | .hbm, ⟨16, _⟩ => ⟨S_, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S_, .f32⟩
  | .hbm, ⟨21, _⟩ => ⟨S8x1x1024, .f32⟩
  | .hbm, ⟨22, _⟩ => ⟨S8x1x1024, .f32⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S1x8192, .f32⟩
  | .hbm, ⟨27, _⟩ => ⟨S8192x1, .f32⟩
  | .hbm, ⟨28, _⟩ => ⟨S8x1x1024, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x512, .bf16⟩
  | .local _ .vmem, ⟨3, _⟩ => ⟨S2048x512, .bf16⟩
  | .local _ .vmem, ⟨4, _⟩ => ⟨S2048x1, .i32⟩
  | .local _ .vmem, ⟨5, _⟩ => ⟨S2048x1, .i32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x128, .f32⟩
  | .local _ .vmem, ⟨11, _⟩ => ⟨S1x1x128, .f32⟩
  | .local _ .vmem, ⟨12, _⟩ => ⟨S512x1024, .bf16⟩
  | .local _ .vmem, ⟨13, _⟩ => ⟨S512x1024, .bf16⟩
  | .local _ .vmem, ⟨14, _⟩ => ⟨S1024x512, .bf16⟩
  | .local _ .vmem, ⟨15, _⟩ => ⟨S1024x512, .bf16⟩
  | .local _ .vmem, ⟨16, _⟩ => ⟨S1x1024, .i32⟩
  | .local _ .vmem, ⟨17, _⟩ => ⟨S1x1024, .i32⟩
  | .local _ .vmem, ⟨18, _⟩ => ⟨S1024x1, .i32⟩
  | .local _ .vmem, ⟨19, _⟩ => ⟨S1024x1, .i32⟩
  | .local _ .vmem, ⟨20, _⟩ => ⟨S1x1024, .f32⟩
  | .local _ .vmem, ⟨21, _⟩ => ⟨S1x1024, .f32⟩
  | .local _ .vmem, ⟨22, _⟩ => ⟨S1024x1, .f32⟩
  | .local _ .vmem, ⟨23, _⟩ => ⟨S1024x1, .f32⟩
  | .local _ .vmem, ⟨24, _⟩ => ⟨S1x1x1024, .f32⟩
  | .local _ .vmem, ⟨25, _⟩ => ⟨S1x1x1024, .f32⟩
  | .local _ .vmem, ⟨26, _⟩ => ⟨S8x1x1024, .f32⟩
  | .local _ .vmem, ⟨27, _⟩ => ⟨S512x1024, .bf16⟩
  | .local _ .vmem, ⟨28, _⟩ => ⟨S512x1024, .bf16⟩
  | .local _ .vmem, ⟨29, _⟩ => ⟨S1024x512, .bf16⟩
  | .local _ .vmem, ⟨30, _⟩ => ⟨S1024x512, .bf16⟩
  | .local _ .vmem, ⟨31, _⟩ => ⟨S1x1024, .i32⟩
  | .local _ .vmem, ⟨32, _⟩ => ⟨S1x1024, .i32⟩
  | .local _ .vmem, ⟨33, _⟩ => ⟨S1024x1, .i32⟩
  | .local _ .vmem, ⟨34, _⟩ => ⟨S1024x1, .i32⟩
  | .local _ .vmem, ⟨35, _⟩ => ⟨S1x1024, .f32⟩
  | .local _ .vmem, ⟨36, _⟩ => ⟨S1x1024, .f32⟩
  | .local _ .vmem, ⟨37, _⟩ => ⟨S1024x1, .f32⟩
  | .local _ .vmem, ⟨38, _⟩ => ⟨S1024x1, .f32⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | .local _ .vmem, ⟨42, _⟩ => ⟨S1x1024, .f32⟩
  | .local _ .vmem, ⟨43, _⟩ => ⟨S1024x1, .f32⟩
  | .local _ .vmem, ⟨44, _⟩ => ⟨S1024x1, .f32⟩
  | .local _ .vmem, ⟨45, _⟩ => ⟨S1x1x1024, .f32⟩
  | .local _ .vmem, ⟨46, _⟩ => ⟨S1x1x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_cst : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7_0 : Ref sig .tc := ⟨.hbm, 10, rfl⟩
abbrev main_call0_v7_1 : Ref sig .tc := ⟨.hbm, 11, rfl⟩
abbrev main_call0_v7_2 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_cst_0 : Ref sig .tc := ⟨.hbm, 16, rfl⟩
abbrev main_call0_v11 : Ref sig .tc := ⟨.hbm, 17, rfl⟩
abbrev main_call0_v12 : Ref sig .tc := ⟨.hbm, 18, rfl⟩
abbrev main_call0_cst_1 : Ref sig .tc := ⟨.hbm, 19, rfl⟩
abbrev main_call0_v13 : Ref sig .tc := ⟨.hbm, 20, rfl⟩
abbrev main_call0_v14_0 : Ref sig .tc := ⟨.hbm, 21, rfl⟩
abbrev main_call0_v14_1 : Ref sig .tc := ⟨.hbm, 22, rfl⟩
abbrev main_call0_v15 : Ref sig .tc := ⟨.hbm, 23, rfl⟩
abbrev main_call0_v16 : Ref sig .tc := ⟨.hbm, 24, rfl⟩
abbrev main_call0_v17 : Ref sig .tc := ⟨.hbm, 25, rfl⟩
abbrev main_call0_v18 : Ref sig .tc := ⟨.hbm, 26, rfl⟩
abbrev main_call0_v19 : Ref sig .tc := ⟨.hbm, 27, rfl⟩
abbrev main_call0_v20 : Ref sig .tc := ⟨.hbm, 28, rfl⟩
abbrev main_call0_cst_2 : Ref sig .tc := ⟨.hbm, 29, rfl⟩
abbrev main_call0_v21 : Ref sig .tc := ⟨.hbm, 30, rfl⟩
abbrev main_v0 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg3_1 : Ref sig .tc := ⟨.vmem, 34, rfl⟩
abbrev cc2_stg4_0 : Ref sig .tc := ⟨.vmem, 35, rfl⟩
abbrev cc2_stg4_1 : Ref sig .tc := ⟨.vmem, 36, rfl⟩
abbrev cc2_stg5_0 : Ref sig .tc := ⟨.vmem, 37, rfl⟩
abbrev cc2_stg5_1 : Ref sig .tc := ⟨.vmem, 38, rfl⟩
abbrev cc2_stg6_0 : Ref sig .tc := ⟨.vmem, 39, rfl⟩
abbrev cc2_stg6_1 : Ref sig .tc := ⟨.vmem, 40, rfl⟩
abbrev cc2_stg7_0 : Ref sig .tc := ⟨.vmem, 41, rfl⟩
abbrev cc2_stg7_1 : Ref sig .tc := ⟨.vmem, 42, rfl⟩
abbrev cc2_stg8_0 : Ref sig .tc := ⟨.vmem, 43, rfl⟩
abbrev cc2_stg8_1 : Ref sig .tc := ⟨.vmem, 44, rfl⟩
abbrev cc2_stg9_0 : Ref sig .tc := ⟨.vmem, 45, rfl⟩
abbrev cc2_stg9_1 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem2_1 : DmaSem sig := 32
abbrev cc2_sem3_0 : DmaSem sig := 33
abbrev cc2_sem3_1 : DmaSem sig := 34
abbrev cc2_sem4_0 : DmaSem sig := 35
abbrev cc2_sem4_1 : DmaSem sig := 36
abbrev cc2_sem5_0 : DmaSem sig := 37
abbrev cc2_sem5_1 : DmaSem sig := 38
abbrev cc2_sem6_0 : DmaSem sig := 39
abbrev cc2_sem6_1 : DmaSem sig := 40
abbrev cc2_sem7_0 : DmaSem sig := 41
abbrev cc2_sem7_1 : DmaSem sig := 42
abbrev cc2_sem8_0 : DmaSem sig := 43
abbrev cc2_sem8_1 : DmaSem sig := 44
abbrev cc2_sem9_0 : DmaSem sig := 45
abbrev cc2_sem9_1 : DmaSem sig := 46

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 9], ![false, false]⟩

def k1_off1 (i : grid1.Coords) : Fin 3 → Nat :=
  let arg1 : BitVec 32 := BitVec.ofNat 32 (i 1).val
  let c8_i32 : BitVec 32 := 8#32
  let c1_i32 : BitVec 32 := 1#32
  let arg0 : BitVec 32 := BitVec.ofNat 32 (i 0).val
  let v0 : BitVec 32 := Scalar.muli c1_i32 arg0
  let v1 : BitVec 32 := Scalar.subi c8_i32 v0
  let v2 : BitVec 1 := Scalar.cmpi .slt arg1 v1
  let c1_i32_0 : BitVec 32 := 1#32
  let v5 : BitVec 32 := Scalar.muli c1_i32_0 arg0
  let v6 : BitVec 32 := Scalar.addi v5 arg1
  let c7_i32_1 : BitVec 32 := 7#32
  let v7 : BitVec 32 := Scalar.addi arg1 c7_i32_1
  let c8_i32_2 : BitVec 32 := 8#32
  let v8 : BitVec 32 := Scalar.subi v7 c8_i32_2
  let v9 : BitVec 32 := Scalar.select v2 v6 v8
  let v80 : Index := Scalar.indexCast v9
  let c0_33 : Index := 0#32
  let c0_34 : Index := 0#32
  ![v80.toNat, 0, 0]
def k1_cond1 (i : grid1.Coords) : BitVec 1 :=
  let arg1 : BitVec 32 := BitVec.ofNat 32 (i 1).val
  let c0_i32 : BitVec 32 := 0#32
  let v61 : BitVec 1 := Scalar.cmpi .eq arg1 c0_i32
  let c8_i32_24 : BitVec 32 := 8#32
  let c1_i32_23 : BitVec 32 := 1#32
  let arg0 : BitVec 32 := BitVec.ofNat 32 (i 0).val
  let v62 : BitVec 32 := Scalar.muli c1_i32_23 arg0
  let v63 : BitVec 32 := Scalar.subi c8_i32_24 v62
  let v64 : BitVec 1 := Scalar.cmpi .eq arg1 v63
  let v65 : BitVec 1 := Scalar.ori v61 v64
  let v66 : BitVec 32 := Scalar.extui v65
  let c0_i32_25 : BitVec 32 := 0#32
  let v67 : BitVec 1 := Scalar.cmpi .ne v66 c0_i32_25
  v67

def k1_cond2 (i : grid1.Coords) : BitVec 1 :=
  let arg1 : BitVec 32 := BitVec.ofNat 32 (i 1).val
  let c0_i32_26 : BitVec 32 := 0#32
  let v68 : BitVec 1 := Scalar.cmpi .ne arg1 c0_i32_26
  let c8_i32_28 : BitVec 32 := 8#32
  let c1_i32_27 : BitVec 32 := 1#32
  let arg0 : BitVec 32 := BitVec.ofNat 32 (i 0).val
  let v69 : BitVec 32 := Scalar.muli c1_i32_27 arg0
  let v70 : BitVec 32 := Scalar.subi c8_i32_28 v69
  let v71 : BitVec 1 := Scalar.cmpi .ne arg1 v70
  let v72 : BitVec 1 := Scalar.andi v68 v71
  let v73 : BitVec 32 := Scalar.extui v72
  let c0_i32_29 : BitVec 32 := 0#32
  let v74 : BitVec 1 := Scalar.cmpi .ne v73 c0_i32_29
  v74

def cc1_transform_0 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c8_i32 : BitVec 32 := 8#32
  let v1 : BitVec 32 := Scalar.subi c8_i32 v0
  let v2 : BitVec 1 := Scalar.cmpi .slt arg1 v1
  let c7_i32 : BitVec 32 := 7#32
  let v3 : BitVec 32 := Scalar.subi c7_i32 arg0
  let v4 : BitVec 32 := Scalar.select v2 arg0 v3
  let c1_i32_0 : BitVec 32 := 1#32
  let v5 : BitVec 32 := Scalar.muli c1_i32_0 arg0
  let v6 : BitVec 32 := Scalar.addi v5 arg1
  let c7_i32_1 : BitVec 32 := 7#32
  let v7 : BitVec 32 := Scalar.addi arg1 c7_i32_1
  let c8_i32_2 : BitVec 32 := 8#32
  let v8 : BitVec 32 := Scalar.subi v7 c8_i32_2
  let v9 : BitVec 32 := Scalar.select v2 v6 v8
  let c0_i32 : BitVec 32 := 0#32
  let c0_i32_3 : BitVec 32 := 0#32
  ![c0_i32.toNat, v4.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c8_i32 : BitVec 32 := 8#32
  let v1 : BitVec 32 := Scalar.subi c8_i32 v0
  let v2 : BitVec 1 := Scalar.cmpi .slt arg1 v1
  let c7_i32 : BitVec 32 := 7#32
  let v3 : BitVec 32 := Scalar.subi c7_i32 arg0
  let v4 : BitVec 32 := Scalar.select v2 arg0 v3
  let c1_i32_0 : BitVec 32 := 1#32
  let v5 : BitVec 32 := Scalar.muli c1_i32_0 arg0
  let v6 : BitVec 32 := Scalar.addi v5 arg1
  let c7_i32_1 : BitVec 32 := 7#32
  let v7 : BitVec 32 := Scalar.addi arg1 c7_i32_1
  let c8_i32_2 : BitVec 32 := 8#32
  let v8 : BitVec 32 := Scalar.subi v7 c8_i32_2
  let v9 : BitVec 32 := Scalar.select v2 v6 v8
  let c0_i32 : BitVec 32 := 0#32
  let c0_i32_3 : BitVec 32 := 0#32
  ![v9.toNat, c0_i32.toNat]

def cc1_transform_2 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c8_i32 : BitVec 32 := 8#32
  let v1 : BitVec 32 := Scalar.subi c8_i32 v0
  let v2 : BitVec 1 := Scalar.cmpi .slt arg1 v1
  let c7_i32 : BitVec 32 := 7#32
  let v3 : BitVec 32 := Scalar.subi c7_i32 arg0
  let v4 : BitVec 32 := Scalar.select v2 arg0 v3
  let c1_i32_0 : BitVec 32 := 1#32
  let v5 : BitVec 32 := Scalar.muli c1_i32_0 arg0
  let v6 : BitVec 32 := Scalar.addi v5 arg1
  let c7_i32_1 : BitVec 32 := 7#32
  let v7 : BitVec 32 := Scalar.addi arg1 c7_i32_1
  let c8_i32_2 : BitVec 32 := 8#32
  let v8 : BitVec 32 := Scalar.subi v7 c8_i32_2
  let v9 : BitVec 32 := Scalar.select v2 v6 v8
  let c0_i32 : BitVec 32 := 0#32
  let c0_i32_3 : BitVec 32 := 0#32
  ![c0_i32.toNat, v4.toNat]

def cc1_transform_3 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c8_i32 : BitVec 32 := 8#32
  let v1 : BitVec 32 := Scalar.subi c8_i32 v0
  let v2 : BitVec 1 := Scalar.cmpi .slt arg1 v1
  let c7_i32 : BitVec 32 := 7#32
  let v3 : BitVec 32 := Scalar.subi c7_i32 arg0
  let v4 : BitVec 32 := Scalar.select v2 arg0 v3
  let c1_i32_0 : BitVec 32 := 1#32
  let v5 : BitVec 32 := Scalar.muli c1_i32_0 arg0
  let v6 : BitVec 32 := Scalar.addi v5 arg1
  let c7_i32_1 : BitVec 32 := 7#32
  let v7 : BitVec 32 := Scalar.addi arg1 c7_i32_1
  let c8_i32_2 : BitVec 32 := 8#32
  let v8 : BitVec 32 := Scalar.subi v7 c8_i32_2
  let v9 : BitVec 32 := Scalar.select v2 v6 v8
  let c0_i32 : BitVec 32 := 0#32
  let c0_i32_3 : BitVec 32 := 0#32
  ![v9.toNat, c0_i32.toNat]

def cc1_transform_4 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c8_i32 : BitVec 32 := 8#32
  let v1 : BitVec 32 := Scalar.subi c8_i32 v0
  let v2 : BitVec 1 := Scalar.cmpi .slt arg1 v1
  let c7_i32 : BitVec 32 := 7#32
  let v3 : BitVec 32 := Scalar.subi c7_i32 arg0
  let v4 : BitVec 32 := Scalar.select v2 arg0 v3
  let c1_i32_0 : BitVec 32 := 1#32
  let v5 : BitVec 32 := Scalar.muli c1_i32_0 arg0
  let v6 : BitVec 32 := Scalar.addi v5 arg1
  let c7_i32_1 : BitVec 32 := 7#32
  let v7 : BitVec 32 := Scalar.addi arg1 c7_i32_1
  let c8_i32_2 : BitVec 32 := 8#32
  let v8 : BitVec 32 := Scalar.subi v7 c8_i32_2
  let v9 : BitVec 32 := Scalar.select v2 v6 v8
  let c0_i32 : BitVec 32 := 0#32
  let c0_i32_3 : BitVec 32 := 0#32
  ![c0_i32.toNat, v4.toNat]

def cc1_transform_5 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c8_i32 : BitVec 32 := 8#32
  let v1 : BitVec 32 := Scalar.subi c8_i32 v0
  let v2 : BitVec 1 := Scalar.cmpi .slt arg1 v1
  let c7_i32 : BitVec 32 := 7#32
  let v3 : BitVec 32 := Scalar.subi c7_i32 arg0
  let v4 : BitVec 32 := Scalar.select v2 arg0 v3
  let c1_i32_0 : BitVec 32 := 1#32
  let v5 : BitVec 32 := Scalar.muli c1_i32_0 arg0
  let v6 : BitVec 32 := Scalar.addi v5 arg1
  let c7_i32_1 : BitVec 32 := 7#32
  let v7 : BitVec 32 := Scalar.addi arg1 c7_i32_1
  let c8_i32_2 : BitVec 32 := 8#32
  let v8 : BitVec 32 := Scalar.subi v7 c8_i32_2
  let v9 : BitVec 32 := Scalar.select v2 v6 v8
  let c0_i32 : BitVec 32 := 0#32
  let c0_i32_3 : BitVec 32 := 0#32
  ![v9.toNat, c0_i32.toNat]

def cc1_transform_6 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c8_i32 : BitVec 32 := 8#32
  let v1 : BitVec 32 := Scalar.subi c8_i32 v0
  let v2 : BitVec 1 := Scalar.cmpi .slt arg1 v1
  let c7_i32 : BitVec 32 := 7#32
  let v3 : BitVec 32 := Scalar.subi c7_i32 arg0
  let v4 : BitVec 32 := Scalar.select v2 arg0 v3
  let c1_i32_0 : BitVec 32 := 1#32
  let v5 : BitVec 32 := Scalar.muli c1_i32_0 arg0
  let v6 : BitVec 32 := Scalar.addi v5 arg1
  let c7_i32_1 : BitVec 32 := 7#32
  let v7 : BitVec 32 := Scalar.addi arg1 c7_i32_1
  let c8_i32_2 : BitVec 32 := 8#32
  let v8 : BitVec 32 := Scalar.subi v7 c8_i32_2
  let v9 : BitVec 32 := Scalar.select v2 v6 v8
  let c0_i32 : BitVec 32 := 0#32
  let c0_i32_3 : BitVec 32 := 0#32
  let c0_i32_4 : BitVec 32 := 0#32
  ![v4.toNat, c0_i32.toNat, c0_i32_3.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 1 → Memref sig .tc .vmem S8x1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev grid2 : Pipeline.Grid := ⟨2, ![4, 9], ![false, false]⟩

def k2_cond1 (i : grid2.Coords) : BitVec 1 :=
  let arg1 : BitVec 32 := BitVec.ofNat 32 (i 1).val
  let c0_i32 : BitVec 32 := 0#32
  let v64 : BitVec 1 := Scalar.cmpi .eq arg1 c0_i32
  let c8_i32_25 : BitVec 32 := 8#32
  let c1_i32_24 : BitVec 32 := 1#32
  let arg0 : BitVec 32 := BitVec.ofNat 32 (i 0).val
  let v65 : BitVec 32 := Scalar.muli c1_i32_24 arg0
  let v66 : BitVec 32 := Scalar.subi c8_i32_25 v65
  let v67 : BitVec 1 := Scalar.cmpi .eq arg1 v66
  let v68 : BitVec 1 := Scalar.ori v64 v67
  let v69 : BitVec 32 := Scalar.extui v68
  let c0_i32_26 : BitVec 32 := 0#32
  let v70 : BitVec 1 := Scalar.cmpi .ne v69 c0_i32_26
  v70

def k2_cond2 (i : grid2.Coords) : BitVec 1 :=
  let arg1 : BitVec 32 := BitVec.ofNat 32 (i 1).val
  let c0_i32_27 : BitVec 32 := 0#32
  let v71 : BitVec 1 := Scalar.cmpi .ne arg1 c0_i32_27
  let c8_i32_29 : BitVec 32 := 8#32
  let c1_i32_28 : BitVec 32 := 1#32
  let arg0 : BitVec 32 := BitVec.ofNat 32 (i 0).val
  let v72 : BitVec 32 := Scalar.muli c1_i32_28 arg0
  let v73 : BitVec 32 := Scalar.subi c8_i32_29 v72
  let v74 : BitVec 1 := Scalar.cmpi .ne arg1 v73
  let v75 : BitVec 1 := Scalar.andi v71 v74
  let v76 : BitVec 32 := Scalar.extui v75
  let c0_i32_30 : BitVec 32 := 0#32
  let v77 : BitVec 1 := Scalar.cmpi .ne v76 c0_i32_30
  v77

def cc2_transform_0 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c8_i32 : BitVec 32 := 8#32
  let v1 : BitVec 32 := Scalar.subi c8_i32 v0
  let v2 : BitVec 1 := Scalar.cmpi .slt arg1 v1
  let c7_i32 : BitVec 32 := 7#32
  let v3 : BitVec 32 := Scalar.subi c7_i32 arg0
  let v4 : BitVec 32 := Scalar.select v2 arg0 v3
  let c1_i32_0 : BitVec 32 := 1#32
  let v5 : BitVec 32 := Scalar.muli c1_i32_0 arg0
  let v6 : BitVec 32 := Scalar.addi v5 arg1
  let c7_i32_1 : BitVec 32 := 7#32
  let v7 : BitVec 32 := Scalar.addi arg1 c7_i32_1
  let c8_i32_2 : BitVec 32 := 8#32
  let v8 : BitVec 32 := Scalar.subi v7 c8_i32_2
  let v9 : BitVec 32 := Scalar.select v2 v6 v8
  let c0_i32 : BitVec 32 := 0#32
  let c0_i32_3 : BitVec 32 := 0#32
  ![c0_i32.toNat, v4.toNat]

def cc2_transform_1 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c8_i32 : BitVec 32 := 8#32
  let v1 : BitVec 32 := Scalar.subi c8_i32 v0
  let v2 : BitVec 1 := Scalar.cmpi .slt arg1 v1
  let c7_i32 : BitVec 32 := 7#32
  let v3 : BitVec 32 := Scalar.subi c7_i32 arg0
  let v4 : BitVec 32 := Scalar.select v2 arg0 v3
  let c1_i32_0 : BitVec 32 := 1#32
  let v5 : BitVec 32 := Scalar.muli c1_i32_0 arg0
  let v6 : BitVec 32 := Scalar.addi v5 arg1
  let c7_i32_1 : BitVec 32 := 7#32
  let v7 : BitVec 32 := Scalar.addi arg1 c7_i32_1
  let c8_i32_2 : BitVec 32 := 8#32
  let v8 : BitVec 32 := Scalar.subi v7 c8_i32_2
  let v9 : BitVec 32 := Scalar.select v2 v6 v8
  let c0_i32 : BitVec 32 := 0#32
  let c0_i32_3 : BitVec 32 := 0#32
  ![v9.toNat, c0_i32.toNat]

def cc2_transform_2 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c8_i32 : BitVec 32 := 8#32
  let v1 : BitVec 32 := Scalar.subi c8_i32 v0
  let v2 : BitVec 1 := Scalar.cmpi .slt arg1 v1
  let c7_i32 : BitVec 32 := 7#32
  let v3 : BitVec 32 := Scalar.subi c7_i32 arg0
  let v4 : BitVec 32 := Scalar.select v2 arg0 v3
  let c1_i32_0 : BitVec 32 := 1#32
  let v5 : BitVec 32 := Scalar.muli c1_i32_0 arg0
  let v6 : BitVec 32 := Scalar.addi v5 arg1
  let c7_i32_1 : BitVec 32 := 7#32
  let v7 : BitVec 32 := Scalar.addi arg1 c7_i32_1
  let c8_i32_2 : BitVec 32 := 8#32
  let v8 : BitVec 32 := Scalar.subi v7 c8_i32_2
  let v9 : BitVec 32 := Scalar.select v2 v6 v8
  let c0_i32 : BitVec 32 := 0#32
  let c0_i32_3 : BitVec 32 := 0#32
  ![c0_i32.toNat, v4.toNat]

def cc2_transform_3 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c8_i32 : BitVec 32 := 8#32
  let v1 : BitVec 32 := Scalar.subi c8_i32 v0
  let v2 : BitVec 1 := Scalar.cmpi .slt arg1 v1
  let c7_i32 : BitVec 32 := 7#32
  let v3 : BitVec 32 := Scalar.subi c7_i32 arg0
  let v4 : BitVec 32 := Scalar.select v2 arg0 v3
  let c1_i32_0 : BitVec 32 := 1#32
  let v5 : BitVec 32 := Scalar.muli c1_i32_0 arg0
  let v6 : BitVec 32 := Scalar.addi v5 arg1
  let c7_i32_1 : BitVec 32 := 7#32
  let v7 : BitVec 32 := Scalar.addi arg1 c7_i32_1
  let c8_i32_2 : BitVec 32 := 8#32
  let v8 : BitVec 32 := Scalar.subi v7 c8_i32_2
  let v9 : BitVec 32 := Scalar.select v2 v6 v8
  let c0_i32 : BitVec 32 := 0#32
  let c0_i32_3 : BitVec 32 := 0#32
  ![v9.toNat, c0_i32.toNat]

def cc2_transform_4 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c8_i32 : BitVec 32 := 8#32
  let v1 : BitVec 32 := Scalar.subi c8_i32 v0
  let v2 : BitVec 1 := Scalar.cmpi .slt arg1 v1
  let c7_i32 : BitVec 32 := 7#32
  let v3 : BitVec 32 := Scalar.subi c7_i32 arg0
  let v4 : BitVec 32 := Scalar.select v2 arg0 v3
  let c1_i32_0 : BitVec 32 := 1#32
  let v5 : BitVec 32 := Scalar.muli c1_i32_0 arg0
  let v6 : BitVec 32 := Scalar.addi v5 arg1
  let c7_i32_1 : BitVec 32 := 7#32
  let v7 : BitVec 32 := Scalar.addi arg1 c7_i32_1
  let c8_i32_2 : BitVec 32 := 8#32
  let v8 : BitVec 32 := Scalar.subi v7 c8_i32_2
  let v9 : BitVec 32 := Scalar.select v2 v6 v8
  let c0_i32 : BitVec 32 := 0#32
  let c0_i32_3 : BitVec 32 := 0#32
  ![c0_i32.toNat, v4.toNat]

def cc2_transform_5 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c8_i32 : BitVec 32 := 8#32
  let v1 : BitVec 32 := Scalar.subi c8_i32 v0
  let v2 : BitVec 1 := Scalar.cmpi .slt arg1 v1
  let c7_i32 : BitVec 32 := 7#32
  let v3 : BitVec 32 := Scalar.subi c7_i32 arg0
  let v4 : BitVec 32 := Scalar.select v2 arg0 v3
  let c1_i32_0 : BitVec 32 := 1#32
  let v5 : BitVec 32 := Scalar.muli c1_i32_0 arg0
  let v6 : BitVec 32 := Scalar.addi v5 arg1
  let c7_i32_1 : BitVec 32 := 7#32
  let v7 : BitVec 32 := Scalar.addi arg1 c7_i32_1
  let c8_i32_2 : BitVec 32 := 8#32
  let v8 : BitVec 32 := Scalar.subi v7 c8_i32_2
  let v9 : BitVec 32 := Scalar.select v2 v6 v8
  let c0_i32 : BitVec 32 := 0#32
  let c0_i32_3 : BitVec 32 := 0#32
  ![v9.toNat, c0_i32.toNat]

def cc2_transform_6 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c8_i32 : BitVec 32 := 8#32
  let v1 : BitVec 32 := Scalar.subi c8_i32 v0
  let v2 : BitVec 1 := Scalar.cmpi .slt arg1 v1
  let c7_i32 : BitVec 32 := 7#32
  let v3 : BitVec 32 := Scalar.subi c7_i32 arg0
  let v4 : BitVec 32 := Scalar.select v2 arg0 v3
  let c1_i32_0 : BitVec 32 := 1#32
  let v5 : BitVec 32 := Scalar.muli c1_i32_0 arg0
  let v6 : BitVec 32 := Scalar.addi v5 arg1
  let c7_i32_1 : BitVec 32 := 7#32
  let v7 : BitVec 32 := Scalar.addi arg1 c7_i32_1
  let c8_i32_2 : BitVec 32 := 8#32
  let v8 : BitVec 32 := Scalar.subi v7 c8_i32_2
  let v9 : BitVec 32 := Scalar.select v2 v6 v8
  let c0_i32 : BitVec 32 := 0#32
  let c0_i32_3 : BitVec 32 := 0#32
  ![c0_i32.toNat, v4.toNat]

def cc2_transform_7 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c8_i32 : BitVec 32 := 8#32
  let v1 : BitVec 32 := Scalar.subi c8_i32 v0
  let v2 : BitVec 1 := Scalar.cmpi .slt arg1 v1
  let c7_i32 : BitVec 32 := 7#32
  let v3 : BitVec 32 := Scalar.subi c7_i32 arg0
  let v4 : BitVec 32 := Scalar.select v2 arg0 v3
  let c1_i32_0 : BitVec 32 := 1#32
  let v5 : BitVec 32 := Scalar.muli c1_i32_0 arg0
  let v6 : BitVec 32 := Scalar.addi v5 arg1
  let c7_i32_1 : BitVec 32 := 7#32
  let v7 : BitVec 32 := Scalar.addi arg1 c7_i32_1
  let c8_i32_2 : BitVec 32 := 8#32
  let v8 : BitVec 32 := Scalar.subi v7 c8_i32_2
  let v9 : BitVec 32 := Scalar.select v2 v6 v8
  let c0_i32 : BitVec 32 := 0#32
  let c0_i32_3 : BitVec 32 := 0#32
  ![c0_i32.toNat, v4.toNat]

def cc2_transform_8 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c8_i32 : BitVec 32 := 8#32
  let v1 : BitVec 32 := Scalar.subi c8_i32 v0
  let v2 : BitVec 1 := Scalar.cmpi .slt arg1 v1
  let c7_i32 : BitVec 32 := 7#32
  let v3 : BitVec 32 := Scalar.subi c7_i32 arg0
  let v4 : BitVec 32 := Scalar.select v2 arg0 v3
  let c1_i32_0 : BitVec 32 := 1#32
  let v5 : BitVec 32 := Scalar.muli c1_i32_0 arg0
  let v6 : BitVec 32 := Scalar.addi v5 arg1
  let c7_i32_1 : BitVec 32 := 7#32
  let v7 : BitVec 32 := Scalar.addi arg1 c7_i32_1
  let c8_i32_2 : BitVec 32 := 8#32
  let v8 : BitVec 32 := Scalar.subi v7 c8_i32_2
  let v9 : BitVec 32 := Scalar.select v2 v6 v8
  let c0_i32 : BitVec 32 := 0#32
  let c0_i32_3 : BitVec 32 := 0#32
  ![v9.toNat, c0_i32.toNat]

def cc2_transform_9 (i : grid2.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c8_i32 : BitVec 32 := 8#32
  let v1 : BitVec 32 := Scalar.subi c8_i32 v0
  let v2 : BitVec 1 := Scalar.cmpi .slt arg1 v1
  let c7_i32 : BitVec 32 := 7#32
  let v3 : BitVec 32 := Scalar.subi c7_i32 arg0
  let v4 : BitVec 32 := Scalar.select v2 arg0 v3
  let c1_i32_0 : BitVec 32 := 1#32
  let v5 : BitVec 32 := Scalar.muli c1_i32_0 arg0
  let v6 : BitVec 32 := Scalar.addi v5 arg1
  let c7_i32_1 : BitVec 32 := 7#32
  let v7 : BitVec 32 := Scalar.addi arg1 c7_i32_1
  let c8_i32_2 : BitVec 32 := 8#32
  let v8 : BitVec 32 := Scalar.subi v7 c8_i32_2
  let v9 : BitVec 32 := Scalar.select v2 v6 v8
  let c0_i32 : BitVec 32 := 0#32
  let c0_i32_3 : BitVec 32 := 0#32
  let c0_i32_4 : BitVec 32 := 0#32
  ![v4.toNat, c0_i32.toNat, c0_i32_3.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1024 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1024x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S1024x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S1x1x1024 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]
-- ==== KernelIdeal.lean ====
variable {F : FTy → Type} [FloatOps F] [Named F]
def κ : String → Option EReal := fun
  | "log2e" => some (((Real.log 2)⁻¹ : ℝ) : EReal)
  | "margin_log2e" => some (((13421773 / 33554432) * (Real.log 2)⁻¹ : ℝ) : EReal)
  | _ => none
-- ==== ReferenceIdeal.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S512x8192 : Shape := ⟨2, ![512, 8192]⟩

abbrev nBuf : Space → Nat
  | .hbm => 60
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S512x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x1, .i32⟩
  | .hbm, ⟨21, _⟩ => ⟨S1x8192, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S8192x8192, .i1⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S1x8192, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S_, .f32⟩
  | .hbm, ⟨48, _⟩ => ⟨S8192x8192, .f32⟩
  | .hbm, ⟨49, _⟩ => ⟨S8192x8192, .f32⟩
  | .hbm, ⟨50, _⟩ => ⟨S8192x8192, .i32⟩
  | .hbm, ⟨51, _⟩ => ⟨S_, .i32⟩
  | .hbm, ⟨52, _⟩ => ⟨S_, .i32⟩
  | .hbm, ⟨53, _⟩ => ⟨S_, .f32⟩
  | .hbm, ⟨54, _⟩ => ⟨S8192x8192, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_call1_v0 : Ref sig .tc := ⟨.hbm, 47, rfl⟩
abbrev main_call1_v1 : Ref sig .tc := ⟨.hbm, 48, rfl⟩
abbrev main_v35 : Ref sig .tc := ⟨.hbm, 49, rfl⟩
abbrev main_v36 : Ref sig .tc := ⟨.hbm, 50, rfl⟩
abbrev main_c : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== Proof.IdealRegion0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! # The first call: row norms and class counts

Each of its four steps reads 2048 rows and writes three blocks. The module runs one step and collects what the
pipeline needs to know about it. -/

variable (W : Dev nD → Valuation τ sig (Elt F))

/-- Window `w`'s block at step `t`, read from the array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

set_option maxHeartbeats 1000000 in
/-- One step of the first call: the inputs stay, the three outputs hold the payloads over the inputs. -/
theorem step0 (c : Dev nD) (E : Set ℕ) (i : grid0.Coords) (arg1 : Memref sig .tc .vmem S2048x512 .f32) (harg1 : arg1.IsWhole) (arg2 : Memref sig .tc .vmem S2048x512 .bf16) (harg2 : arg2.IsWhole) (arg3 : Memref sig .tc .vmem S2048x1 .i32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x128 .f32) (harg6 : arg6.IsWhole)
    (x0 : Vec F S2048x512 .f32) (x1 : Vec F S2048x512 .bf16) (x2 : Vec F S2048x1 .i32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (k0_pay2 x0) ∗ owns (c : Thread nD τ) arg5 fullShare (k0_pay3 x1) ∗ owns (c : Thread nD τ) arg6 fullShare (k0_pay1 (k0_pay4 x2))) -∗ K ⟨⟩))
      ⊢ wp frame (wpE (defs₀ (F := F)) Variants.none c none) E (cc0__sq_kernel i arg1 harg1 arg2 harg2 arg3 harg3 arg4 harg4 arg5 harg5 arg6 harg6) K := by
  simp only [cc0__sq_kernel_eq_skeleton]; unfold cc0__sq_kernel_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_full]
    exact congrArg k0_pay2 (View.readAt_full _ _ _)
  isplitl [H4]
  · iexists _; isplitr
    swap; · iexact H4
    ipureintro
    rw [View.read_writes_full]
    exact congrArg k0_pay3 (View.readAt_full _ _ _)
  iexists _; isplitr
  swap; · iexact H5
  ipureintro
  rw [View.read_writes_full]
  exact congrArg (fun z => k0_pay1 (k0_pay4 z)) (View.readAt_full _ _ _)

/-- What the pipeline is told of the first call: the arrays as found, what each step leaves in each buffer. -/
def dat0 (c : Dev nD) : Dat τ (Elt F) Unit ℕ (UR sig nD τ) ℕ cfg0 c where
  A w := W c (Proc.devRef .tc (Pipeline.arrRef spec0 w))
  after w t := match w with
    | ⟨0, _⟩ => blk0 W c 0 t
    | ⟨1, _⟩ => blk0 W c 1 t
    | ⟨2, _⟩ => blk0 W c 2 t
    | ⟨3, _⟩ => k0_pay2 (blk0 W c 0 t)
    | ⟨4, _⟩ => k0_pay3 (blk0 W c 1 t)
    | ⟨5, _⟩ => k0_pay1 (k0_pay4 (blk0 W c 2 t))
  Φ _ := Pipeline.scopedRest spec0 c
  q _ := fullShare
  owed _ := 0

theorem dat0_A (c : Dev nD) (w : Fin cfg0.W) : (dat0 W c).A w = W c (Proc.devRef .tc (Pipeline.arrRef spec0 w)) := by
  dsimp only [dat0]

theorem dat0_after0 (c : Dev nD) (t : Fin cfg0.N) : (dat0 W c).after 0 t = blk0 W c 0 t := by dsimp only [dat0]
theorem dat0_after1 (c : Dev nD) (t : Fin cfg0.N) : (dat0 W c).after 1 t = blk0 W c 1 t := by dsimp only [dat0]
theorem dat0_after2 (c : Dev nD) (t : Fin cfg0.N) : (dat0 W c).after 2 t = blk0 W c 2 t := by dsimp only [dat0]
theorem dat0_after3 (c : Dev nD) (t : Fin cfg0.N) : (dat0 W c).after 3 t = k0_pay2 (blk0 W c 0 t) := by dsimp only [dat0]
theorem dat0_after4 (c : Dev nD) (t : Fin cfg0.N) : (dat0 W c).after 4 t = k0_pay3 (blk0 W c 1 t) := by dsimp only [dat0]
theorem dat0_after5 (c : Dev nD) (t : Fin cfg0.N) : (dat0 W c).after 5 t = k0_pay1 (k0_pay4 (blk0 W c 2 t)) := by dsimp only [dat0]

/-- An input whose steps leave its block in place holds that block at every step. -/
theorem before0_of (c : Dev nD) (w : Fin cfg0.W) (hw : (cfg0.win w).isOut = false)
    (hclip : ∀ t t' : Fin cfg0.N, (cfg0.win w).index t = (cfg0.win w).index t' →
      (cfg0.win w).clip (cfg0.grid.coords t) = (cfg0.win w).clip (cfg0.grid.coords t'))
    (hcut : ∀ t, (cfg0.win w).cut (cfg0.grid.coords t) ((dat0 W c).after w t) = blk0 W c w t) (t : Fin cfg0.N) (d) :
    (dat0 W c).before w t d = (dat0 W c).fetched w t d :=
  (dat0 W c).before_in_eq_fetched w hw (fun _ => rfl) hclip (fun t => by
    rw [hcut]; unfold Dat.blockOf blk0; rw [dat0_A]) t d

theorem dat0_before0 (c : Dev nD) (t : Fin cfg0.N) (d) : (dat0 W c).before 0 t d = blk0 W c 0 t :=
  (before0_of W c 0 rfl (fun _ _ _ => rfl) (fun t => by rw [dat0_after0]; try rfl) t d).trans (by
    unfold Dat.fetched Dat.blockOf blk0; rw [dat0_A]; try rfl)
theorem dat0_before1 (c : Dev nD) (t : Fin cfg0.N) (d) : (dat0 W c).before 1 t d = blk0 W c 1 t :=
  (before0_of W c 1 rfl (fun _ _ _ => rfl) (fun t => by rw [dat0_after1]; try rfl) t d).trans (by
    unfold Dat.fetched Dat.blockOf blk0; rw [dat0_A]; try rfl)
theorem dat0_before2 (c : Dev nD) (t : Fin cfg0.N) (d) : (dat0 W c).before 2 t d = blk0 W c 2 t :=
  (before0_of W c 2 rfl (fun _ _ _ => rfl) (fun t => by rw [dat0_after2]; try rfl) t d).trans (by
    unfold Dat.fetched Dat.blockOf blk0; rw [dat0_A]; try rfl)

/-- What a step is entered with, window by window. -/
def pre0 (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d))
    ∗ (∃ d, owns (c : Thread nD τ) (st0_3 t) fullShare ((dat0 W c).before 3 t d))
    ∗ (∃ d, owns (c : Thread nD τ) (st0_4 t) fullShare ((dat0 W c).before 4 t d))
    ∗ (∃ d, owns (c : Thread nD τ) (st0_5 t) fullShare ((dat0 W c).before 5 t d)))

/-- What a step returns, window by window. -/
def post0 (c : Dev nD) (t : Fin cfg0.N) : sProp 𝕄 :=
  iprop((dat0 W c).Φ t.succ ∗ (dat0 W c).owesAt () t.succ
    ∗ owns (c : Thread nD τ) (st0_0 t) fullShare ((dat0 W c).after 0 t)
    ∗ owns (c : Thread nD τ) (st0_1 t) fullShare ((dat0 W c).after 1 t)
    ∗ owns (c : Thread nD τ) (st0_2 t) fullShare ((dat0 W c).after 2 t)
    ∗ owns (c : Thread nD τ) (st0_3 t) fullShare ((dat0 W c).after 3 t)
    ∗ owns (c : Thread nD τ) (st0_4 t) fullShare ((dat0 W c).after 4 t)
    ∗ owns (c : Thread nD τ) (st0_5 t) fullShare ((dat0 W c).after 5 t))

theorem body0 (c : Dev nD) (t : Fin cfg0.N) :
    pre0 W c t ⊢ wp frame (wpE (defs₀ (F := F)) Variants.none c none) Set.univ (bodyAt0 t) (fun _ => post0 W c t) := by
  unfold pre0 post0 bodyAt0
  simp only [dat0_before0, dat0_before1, dat0_before2]
  rw [show (dat0 W c).Φ t.succ = (dat0 W c).Φ t.castSucc from rfl,
    show (dat0 W c).owesAt () t.succ = (dat0 W c).owesAt () t.castSucc from rfl,
    dat0_after0, dat0_after1, dat0_after2, dat0_after3, dat0_after4, dat0_after5]
  iintro ⟨HΦ, Ho, ⟨%d0, H0⟩, ⟨%d1, H1⟩, ⟨%d2, H2⟩, ⟨%d3, H3⟩, ⟨%d4, H4⟩, ⟨%d5, H5⟩⟩
  iapply (step0 c Set.univ (grid0.coords t) _ _ _ _ _ _ _ _ _ _ _ _ (blk0 W c 0 t) (blk0 W c 1 t) (blk0 W c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem row0 (t : Fin cfg0.N) :
    defs₀ (F := F) .tc cfg0.body (cfg0.bodyArgs t (cfg0.slots t)) = bodyAt0 t := by
  unfold defs₀; rw [Defs.onTc_tc]

/-- The pipeline's demand on the first call's body, met at every step. -/
theorem obligation0 (c : Dev nD) : BodyObligation (dat0 (F := F) W c) (defs₀ (F := F)) Variants.none () Set.univ := fun t => by
  rw [bigSep_W0, bigSep_W0, row0]
  exact triple_restated (body0 W c t) rfl .rfl fun _ => .rfl

end Cert.KernelIdeal.Blocks

end
-- ==== Proof.IdealRegion1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! # The second call: half of every row sum of exponentials

Step `t` handles one pair of row blocks. It adds a row of partial sums to the buffer of the pair's first block, which
starts afresh whenever that block changes, and adds another row to the slot of the pair's second block in a buffer kept
through all steps. The module runs one step and names what both buffers hold after it. -/

variable (W : Dev nD → Valuation τ sig (Elt F))

/-- The first block of the step's pair, as a word. -/
def iWord (i : grid1.Coords) : BitVec 32 :=
  Scalar.select (Scalar.cmpi .slt (BitVec.ofNat 32 (i 1).val) (Scalar.subi 8#32 (Scalar.muli 1#32 (BitVec.ofNat 32 (i 0).val))))
    (BitVec.ofNat 32 (i 0).val) (Scalar.subi 7#32 (BitVec.ofNat 32 (i 0).val))

/-- The second block of the step's pair, as a word. -/
def jWord (i : grid1.Coords) : BitVec 32 :=
  Scalar.select (Scalar.cmpi .slt (BitVec.ofNat 32 (i 1).val) (Scalar.subi 8#32 (Scalar.muli 1#32 (BitVec.ofNat 32 (i 0).val))))
    (Scalar.addi (Scalar.muli 1#32 (BitVec.ofNat 32 (i 0).val)) (BitVec.ofNat 32 (i 1).val))
    (Scalar.subi (Scalar.addi (BitVec.ofNat 32 (i 1).val) 7#32) 8#32)

/-- Whether this is the very first step, as the body tests it. -/
abbrev firstTest (i : grid1.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

/-- The step's row of partial sums for the first block. -/
def rowSums (i : grid1.Coords) (x0 : Vec F S512x1024 .bf16) (x1 : Vec F S1024x512 .bf16) (x2 : Vec F S1x1024 .i32) (x3 : Vec F S1024x1 .i32) (x4 : Vec F S1x1024 .f32) (x5 : Vec F S1024x1 .f32) : FVec F S1x1x1024 .f32 :=
  k1_pay6 (iWord i) (jWord i) (k1_pay3 x3 x2) (k1_pay4 x1 x0 x5 x4) (Named.named κ "margin_log2e" 0x3F13BB63#32)

/-- The first block's buffer after a step that keeps what it held. -/
def rowAdd (i : grid1.Coords) (x0 : Vec F S512x1024 .bf16) (x1 : Vec F S1024x512 .bf16) (x2 : Vec F S1x1024 .i32) (x3 : Vec F S1024x1 .i32) (x4 : Vec F S1x1024 .f32) (x5 : Vec F S1024x1 .f32) (z : Vec F S1x1x1024 .f32) : FVec F S1x1x1024 .f32 :=
  k1_pay8 (iWord i) (jWord i) (k1_pay3 x3 x2) (k1_pay4 x1 x0 x5 x4) (Named.named κ "margin_log2e" 0x3F13BB63#32) z

/-- The step's row of partial sums for the second block. -/
def colSums (i : grid1.Coords) (x0 : Vec F S512x1024 .bf16) (x1 : Vec F S1024x512 .bf16) (x2 : Vec F S1x1024 .i32) (x3 : Vec F S1024x1 .i32) (x4 : Vec F S1x1024 .f32) (x5 : Vec F S1024x1 .f32) : FVec F S1x1x1024 .f32 :=
  k1_pay7 (iWord i) (jWord i) (k1_pay3 x3 x2) (k1_pay4 x1 x0 x5 x4) (Named.named κ "margin_log2e" 0x3F13BB63#32)

/-- The kept buffer with `v` added to the slot of the step's second block. -/
def colPut (i : grid1.Coords) (v : FVec F S1x1x1024 .f32) (y : Vec F S8x1x1024 .f32) : Vec F S8x1x1024 .f32 :=
  VecWindow.put y (k1_off1 i) S1x1x1024.size (k1_pay2 v (VecWindow.window y (k1_off1 i) S1x1x1024.size (k1_off1_inb i)))

/-- The second block of the step's pair, as a number. -/
def jNat (i : grid1.Coords) : ℕ := if (i 0).val + (i 1).val < 8 then (i 0).val + (i 1).val else (i 1).val - 1

theorem k1_off1_eq : ∀ i : grid1.Coords, k1_off1 i = ![jNat i, 0, 0] := by decide +kernel

instance closedOff_slot (i : grid1.Coords) : ClosedOff (k1_off1 i) := ⟨![jNat i, 0, 0], k1_off1_eq i⟩

/-- Equal reads give equal row sums. -/
theorem rowSums_congr (i : grid1.Coords) {x0 y0 : Vec F S512x1024 .bf16} {x1 y1 : Vec F S1024x512 .bf16} {x2 y2 : Vec F S1x1024 .i32} {x3 y3 : Vec F S1024x1 .i32} {x4 y4 : Vec F S1x1024 .f32} {x5 y5 : Vec F S1024x1 .f32}
    (h0 : y0 = x0) (h1 : y1 = x1) (h2 : y2 = x2) (h3 : y3 = x3) (h4 : y4 = x4) (h5 : y5 = x5) :
    k1_pay6 (iWord i) (jWord i) (k1_pay3 y3 y2) (k1_pay4 y1 y0 y5 y4) (Named.named κ "margin_log2e" 0x3F13BB63#32) = rowSums i x0 x1 x2 x3 x4 x5 := by
  subst h0 h1 h2 h3 h4 h5; rfl

/-- Equal reads give equal column sums. -/
theorem colSums_congr (i : grid1.Coords) {x0 y0 : Vec F S512x1024 .bf16} {x1 y1 : Vec F S1024x512 .bf16} {x2 y2 : Vec F S1x1024 .i32} {x3 y3 : Vec F S1024x1 .i32} {x4 y4 : Vec F S1x1024 .f32} {x5 y5 : Vec F S1024x1 .f32}
    (h0 : y0 = x0) (h1 : y1 = x1) (h2 : y2 = x2) (h3 : y3 = x3) (h4 : y4 = x4) (h5 : y5 = x5) :
    k1_pay7 (iWord i) (jWord i) (k1_pay3 y3 y2) (k1_pay4 y1 y0 y5 y4) (Named.named κ "margin_log2e" 0x3F13BB63#32) = colSums i x0 x1 x2 x3 x4 x5 := by
  subst h0 h1 h2 h3 h4 h5; rfl

/-- Equal reads give equal accumulated row sums. -/
theorem rowAdd_congr (i : grid1.Coords) {x0 y0 : Vec F S512x1024 .bf16} {x1 y1 : Vec F S1024x512 .bf16} {x2 y2 : Vec F S1x1024 .i32} {x3 y3 : Vec F S1024x1 .i32} {x4 y4 : Vec F S1x1024 .f32} {x5 y5 : Vec F S1024x1 .f32} {z w : Vec F S1x1x1024 .f32}
    (h0 : y0 = x0) (h1 : y1 = x1) (h2 : y2 = x2) (h3 : y3 = x3) (h4 : y4 = x4) (h5 : y5 = x5) (hz : w = z) :
    k1_pay8 (iWord i) (jWord i) (k1_pay3 y3 y2) (k1_pay4 y1 y0 y5 y4) (Named.named κ "margin_log2e" 0x3F13BB63#32) w = rowAdd i x0 x1 x2 x3 x4 x5 z := by
  subst h0 h1 h2 h3 h4 h5 hz; rfl

/-- Equal contents and equal sums give equal slot updates. -/
theorem colPut_congr (i : grid1.Coords) (h : ∀ a, k1_off1 i a + S1x1x1024.size a ≤ S8x1x1024.size a)
    {r r' : FVec F S1x1x1024 .f32} {y y' : Vec F S8x1x1024 .f32} {w : Vec F S1x1x1024 .f32} (hr : r' = r) (hy : y' = y)
    (hw : w = VecWindow.window y' (k1_off1 i) S1x1x1024.size h) :
    VecWindow.put y' (k1_off1 i) S1x1x1024.size (k1_pay2 r' w) = colPut i r y := by
  subst hr hy hw
  rfl

section Step

attribute [local irreducible] k1_pay1 k1_pay2 k1_pay3 k1_pay4 k1_pay5 k1_pay6 k1_pay7 k1_pay8

set_option maxHeartbeats 1000000 in
/-- One step of the second call. -/
theorem step1 (c : Dev nD) (E : Set ℕ) (i : grid1.Coords) (arg2 : Memref sig .tc .vmem S512x1024 .bf16) (harg2 : arg2.IsWhole) (arg3 : Memref sig .tc .vmem S1024x512 .bf16) (harg3 : arg3.IsWhole) (arg4 : Memref sig .tc .vmem S1x1024 .i32) (harg4 : arg4.IsWhole) (arg5 : Memref sig .tc .vmem S1024x1 .i32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1x1x1024 .f32) (harg8 : arg8.IsWhole) (arg9 : Memref sig .tc .vmem S8x1x1024 .f32) (harg9 : arg9.IsWhole)
    (hx : k1_cond2 i = 1#1 ↔ ¬ k1_cond1 i = 1#1)
    (x0 : Vec F S512x1024 .bf16) (x1 : Vec F S1024x512 .bf16) (x2 : Vec F S1x1024 .i32) (x3 : Vec F S1024x1 .i32) (x4 : Vec F S1x1024 .f32) (x5 : Vec F S1024x1 .f32) (z : Vec F S1x1x1024 .f32) (y : Vec F S8x1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare z ∗ owns (c : Thread nD τ) arg9 fullShare y
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (if k1_cond1 i = 1#1 then rowSums i x0 x1 x2 x3 x4 x5 else rowAdd i x0 x1 x2 x3 x4 x5 z)
            ∗ owns (c : Thread nD τ) arg9 fullShare (colPut i (colSums i x0 x1 x2 x3 x4 x5) (if firstTest i = 1#1 then k1_pay1 else y))) -∗ K ⟨⟩))
      ⊢ wp frame (wpE (defs₀ (F := F)) Variants.none c none) E (cc1__s_kernel i arg2 harg2 arg3 harg3 arg4 harg4 arg5 harg5 arg6 harg6 arg7 harg7 arg8 harg8 arg9 harg9) K := by
  simp only [cc1__s_kernel_eq_skeleton]; unfold cc1__s_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  by_cases hc1 : k1_cond1 i = 1#1
  all_goals by_cases hc3 : firstTest i = 1#1
  all_goals have hc2 := hx
  all_goals simp only [hc1, not_true_eq_false, not_false_eq_true, iff_false, iff_true] at hc2
  all_goals sl_exec (disch := first | sl_exact hc1 | sl_exact hc2 | sl_exact hc3)
  all_goals sl_step
  all_goals iapply Hk
  all_goals
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr
      swap; · iexact H6
      ipureintro
      rw [View.read_writes_full]
      first
        | rw [if_pos hc1]; exact rowSums_congr i ((View.readAt_full _ _ _).trans hf0) ((View.readAt_full _ _ _).trans hf1) ((View.readAt_full _ _ _).trans hf2) ((View.readAt_full _ _ _).trans hf3) ((View.readAt_full _ _ _).trans hf4) ((View.readAt_full _ _ _).trans hf5)
        | rw [if_neg hc1]; exact rowAdd_congr i ((View.readAt_full _ _ _).trans hf0) ((View.readAt_full _ _ _).trans hf1) ((View.readAt_full _ _ _).trans hf2) ((View.readAt_full _ _ _).trans hf3) ((View.readAt_full _ _ _).trans hf4) ((View.readAt_full _ _ _).trans hf5) ((View.readAt_full _ _ _).trans hf6)
    iexists _; isplitr
    swap; · iexact H7
    ipureintro
    rw [View.read_writes_cons_put _ _ _ _ _ rfl]
    refine colPut_congr i (k1_off1_inb i) ?_ ?_ ?_
    · exact colSums_congr i ((View.readAt_full _ _ _).trans hf0) ((View.readAt_full _ _ _).trans hf1) ((View.readAt_full _ _ _).trans hf2) ((View.readAt_full _ _ _).trans hf3) ((View.readAt_full _ _ _).trans hf4) ((View.readAt_full _ _ _).trans hf5)
    · first
        | rw [if_neg hc3]; exact hf7
        | rw [if_pos hc3]; exact View.read_writes_full arg9.view _ _ _ _
    · exact View.readAt_unit _ _ _ rfl _

end Step

theorem cond1_excl : ∀ i : grid1.Coords, k1_cond2 i = 1#1 ↔ ¬ k1_cond1 i = 1#1 := by decide +kernel

/-- Window `w`'s block at step `t`, read from the array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The step's row sums over the blocks it is handed. -/
def rowAt (c : Dev nD) (t : Fin cfg1.N) : FVec F S1x1x1024 .f32 :=
  rowSums (grid1.coords t) (blk1 W c 0 t) (blk1 W c 1 t) (blk1 W c 2 t) (blk1 W c 3 t) (blk1 W c 4 t) (blk1 W c 5 t)

/-- The row sums added to what the buffer held. -/
def rowAddAt (c : Dev nD) (t : Fin cfg1.N) (z : Vec F S1x1x1024 .f32) : FVec F S1x1x1024 .f32 :=
  rowAdd (grid1.coords t) (blk1 W c 0 t) (blk1 W c 1 t) (blk1 W c 2 t) (blk1 W c 3 t) (blk1 W c 4 t) (blk1 W c 5 t) z

/-- The step's column sums over the blocks it is handed. -/
def colAt (c : Dev nD) (t : Fin cfg1.N) : FVec F S1x1x1024 .f32 :=
  colSums (grid1.coords t) (blk1 W c 0 t) (blk1 W c 1 t) (blk1 W c 2 t) (blk1 W c 3 t) (blk1 W c 4 t) (blk1 W c 5 t)

/-- What the first block's buffer holds after step `n`. -/
def rowAcc (c : Dev nD) : (n : ℕ) → n < cfg1.N → Vec F S1x1x1024 .f32
  | 0, h => rowAt W c ⟨0, h⟩
  | n + 1, h => if k1_cond1 (grid1.coords ⟨n + 1, h⟩) = 1#1 then rowAt W c ⟨n + 1, h⟩ else rowAddAt W c ⟨n + 1, h⟩ (rowAcc c n (Nat.lt_of_succ_lt h))

/-- What the kept buffer holds after step `n`. -/
def colAcc (c : Dev nD) : (n : ℕ) → n < cfg1.N → Vec F S8x1x1024 .f32
  | 0, h => colPut (grid1.coords ⟨0, h⟩) (colAt W c ⟨0, h⟩) k1_pay1
  | n + 1, h => colPut (grid1.coords ⟨n + 1, h⟩) (colAt W c ⟨n + 1, h⟩) (colAcc c n (Nat.lt_of_succ_lt h))

/-- What the pipeline is told of the second call. -/
def dat1 (c : Dev nD) : Dat τ (Elt F) Unit ℕ (UR sig nD τ) ℕ cfg1 c where
  A w := W c (Proc.devRef .tc (Pipeline.arrRef spec1 w))
  after w t := match w with
    | ⟨0, _⟩ => blk1 W c 0 t
    | ⟨1, _⟩ => blk1 W c 1 t
    | ⟨2, _⟩ => blk1 W c 2 t
    | ⟨3, _⟩ => blk1 W c 3 t
    | ⟨4, _⟩ => blk1 W c 4 t
    | ⟨5, _⟩ => blk1 W c 5 t
    | ⟨6, _⟩ => rowAcc W c t.val t.isLt
    | ⟨7, _⟩ => colAcc W c t.val t.isLt
  Φ _ := Pipeline.scopedRest spec1 c
  q _ := fullShare
  owed _ := 0

theorem dat1_A (c : Dev nD) (w : Fin cfg1.W) : (dat1 W c).A w = W c (Proc.devRef .tc (Pipeline.arrRef spec1 w)) := by
  dsimp only [dat1]

theorem dat1_after0 (c : Dev nD) (t : Fin cfg1.N) : (dat1 W c).after 0 t = blk1 W c 0 t := by dsimp only [dat1]
theorem dat1_after1 (c : Dev nD) (t : Fin cfg1.N) : (dat1 W c).after 1 t = blk1 W c 1 t := by dsimp only [dat1]
theorem dat1_after2 (c : Dev nD) (t : Fin cfg1.N) : (dat1 W c).after 2 t = blk1 W c 2 t := by dsimp only [dat1]
theorem dat1_after3 (c : Dev nD) (t : Fin cfg1.N) : (dat1 W c).after 3 t = blk1 W c 3 t := by dsimp only [dat1]
theorem dat1_after4 (c : Dev nD) (t : Fin cfg1.N) : (dat1 W c).after 4 t = blk1 W c 4 t := by dsimp only [dat1]
theorem dat1_after5 (c : Dev nD) (t : Fin cfg1.N) : (dat1 W c).after 5 t = blk1 W c 5 t := by dsimp only [dat1]
theorem dat1_after6 (c : Dev nD) (t : Fin cfg1.N) : (dat1 W c).after 6 t = rowAcc W c t.val t.isLt := by dsimp only [dat1]
theorem dat1_after7 (c : Dev nD) (t : Fin cfg1.N) : (dat1 W c).after 7 t = colAcc W c t.val t.isLt := by dsimp only [dat1]

/-- An input whose steps leave its block in place holds that block at every step. -/
theorem before1_of (c : Dev nD) (w : Fin cfg1.W) (hw : (cfg1.win w).isOut = false) (hlive : ∀ i, cfg1.idle w i = false)
    (hclip : ∀ t t' : Fin cfg1.N, (cfg1.win w).index t = (cfg1.win w).index t' →
      (cfg1.win w).clip (cfg1.grid.coords t) = (cfg1.win w).clip (cfg1.grid.coords t'))
    (hcut : ∀ t, (cfg1.win w).cut (cfg1.grid.coords t) ((dat1 W c).after w t) = blk1 W c w t) (t : Fin cfg1.N) (d) :
    (dat1 W c).before w t d = (dat1 W c).fetched w t d :=
  (dat1 W c).before_in_eq_fetched w hw hlive hclip (fun t => by
    rw [hcut]; unfold Dat.blockOf blk1; rw [dat1_A]) t d

theorem dat1_before0 (c : Dev nD) (t : Fin cfg1.N) (d) : (dat1 W c).before 0 t d = blk1 W c 0 t :=
  (before1_of W c 0 rfl (fun _ => rfl) (fun _ _ _ => rfl) (fun t => by rw [dat1_after0]; try rfl) t d).trans (by
    unfold Dat.fetched Dat.blockOf blk1; rw [dat1_A]; try rfl)
theorem dat1_before1 (c : Dev nD) (t : Fin cfg1.N) (d) : (dat1 W c).before 1 t d = blk1 W c 1 t :=
  (before1_of W c 1 rfl (fun _ => rfl) (fun _ _ _ => rfl) (fun t => by rw [dat1_after1]; try rfl) t d).trans (by
    unfold Dat.fetched Dat.blockOf blk1; rw [dat1_A]; try rfl)
theorem dat1_before2 (c : Dev nD) (t : Fin cfg1.N) (d) : (dat1 W c).before 2 t d = blk1 W c 2 t :=
  (before1_of W c 2 rfl (fun _ => rfl) (fun _ _ _ => rfl) (fun t => by rw [dat1_after2]; try rfl) t d).trans (by
    unfold Dat.fetched Dat.blockOf blk1; rw [dat1_A]; try rfl)
theorem dat1_before3 (c : Dev nD) (t : Fin cfg1.N) (d) : (dat1 W c).before 3 t d = blk1 W c 3 t :=
  (before1_of W c 3 rfl (fun _ => rfl) (fun _ _ _ => rfl) (fun t => by rw [dat1_after3]; try rfl) t d).trans (by
    unfold Dat.fetched Dat.blockOf blk1; rw [dat1_A]; try rfl)
theorem dat1_before4 (c : Dev nD) (t : Fin cfg1.N) (d) : (dat1 W c).before 4 t d = blk1 W c 4 t :=
  (before1_of W c 4 rfl (fun _ => rfl) (fun _ _ _ => rfl) (fun t => by rw [dat1_after4]; try rfl) t d).trans (by
    unfold Dat.fetched Dat.blockOf blk1; rw [dat1_A]; try rfl)
theorem dat1_before5 (c : Dev nD) (t : Fin cfg1.N) (d) : (dat1 W c).before 5 t d = blk1 W c 5 t :=
  (before1_of W c 5 rfl (fun _ => rfl) (fun _ _ _ => rfl) (fun t => by rw [dat1_after5]; try rfl) t d).trans (by
    unfold Dat.fetched Dat.blockOf blk1; rw [dat1_A]; try rfl)

theorem live1_6 : ∀ i : grid1.Coords, cfg1.idle (6 : Fin 8) i = false := by decide +kernel

/-- Whether the first block's buffer is written back after step `n`: exactly when the next step starts afresh. -/
theorem flush1_6 : ∀ t : Fin grid1.N, t.val ≠ 0 → (k1_cond1 (grid1.coords t) = 1#1 ∨ win1_6.flush ⟨t.val - 1, Nat.lt_of_le_of_lt (Nat.sub_le _ _) t.isLt⟩ = false) := by decide +kernel

theorem cond1_zero : ∀ t : Fin grid1.N, t.val = 0 → k1_cond1 (grid1.coords t) = 1#1 := by decide +kernel

theorem firstTest_iff : ∀ t : Fin grid1.N, firstTest (grid1.coords t) = 1#1 ↔ t.val = 0 := by decide +kernel

/-- The first block's buffer after a step, from what the step finds in it. -/
theorem row_step (c : Dev nD) (t : Fin cfg1.N) (d) :
    (if k1_cond1 (grid1.coords t) = 1#1 then rowAt W c t else rowAddAt W c t ((dat1 W c).before 6 t d)) = rowAcc W c t.val t.isLt := by
  by_cases h : k1_cond1 (grid1.coords t) = 1#1
  · rw [if_pos h]
    obtain ⟨n, hn⟩ := t
    cases n with
    | zero => rfl
    | succ n => rw [rowAcc, if_pos h]
  · have h0 : t.val ≠ 0 := fun h0 => h (cond1_zero t h0)
    rw [if_neg h, (dat1 W c).before_out_kept 6 rfl t h0 ((flush1_6 t h0).resolve_left h) live1_6 (fun _ _ => rfl) d, dat1_after6]
    obtain ⟨n, hn⟩ := t
    cases n with
    | zero => exact absurd rfl h0
    | succ n => rw [rowAcc, if_neg h]; rfl

/-- The kept buffer after a step, from what the step finds in it. -/
theorem col_step (c : Dev nD) (t : Fin cfg1.N) (d) :
    colPut (grid1.coords t) (colAt W c t) (if firstTest (grid1.coords t) = 1#1 then k1_pay1 else (dat1 W c).before 7 t d) = colAcc W c t.val t.isLt := by
  by_cases h0 : t.val = 0
  · rw [if_pos ((firstTest_iff t).mpr h0)]
    obtain ⟨n, hn⟩ := t
    obtain rfl : n = 0 := h0
    rfl
  · have hf : (cfg1.win 7).flush ⟨t.val - 1, Nat.lt_of_le_of_lt (Nat.sub_le _ _) t.isLt⟩ = false := by
      rw [Bool.eq_false_iff]
      intro hf
      have h1 := (flush1_7 _).mp hf
      have h2 := t.isLt
      have h3 : cfg1.N = 36 := N_1
      dsimp only at h1
      omega
    rw [if_neg (fun h => h0 ((firstTest_iff t).mp h)), (dat1 W c).before_out_kept 7 rfl t h0 hf (fun _ => rfl) (fun _ _ => rfl) d, dat1_after7]
    obtain ⟨n, hn⟩ := t
    cases n with
    | zero => exact absurd rfl h0
    | succ n => rw [colAcc]; rfl

/-- What a step is entered with, window by window. -/
def pre1 (c : Dev nD) (t : Fin cfg1.N) : sProp 𝕄 :=
  iprop((dat1 W c).Φ t.castSucc ∗ (dat1 W c).owesAt () t.castSucc
    ∗ (∃ d, owns (c : Thread nD τ) (st1_0 t) fullShare ((dat1 W c).before 0 t d))
    ∗ (∃ d, owns (c : Thread nD τ) (st1_1 t) fullShare ((dat1 W c).before 1 t d))
    ∗ (∃ d, owns (c : Thread nD τ) (st1_2 t) fullShare ((dat1 W c).before 2 t d))
    ∗ (∃ d, owns (c : Thread nD τ) (st1_3 t) fullShare ((dat1 W c).before 3 t d))
    ∗ (∃ d, owns (c : Thread nD τ) (st1_4 t) fullShare ((dat1 W c).before 4 t d))
    ∗ (∃ d, owns (c : Thread nD τ) (st1_5 t) fullShare ((dat1 W c).before 5 t d))
    ∗ (∃ d, owns (c : Thread nD τ) (st1_6 t) fullShare ((dat1 W c).before 6 t d))
    ∗ (∃ d, owns (c : Thread nD τ) (st1_7 t) fullShare ((dat1 W c).before 7 t d)))

/-- What a step returns, window by window. -/
def post1 (c : Dev nD) (t : Fin cfg1.N) : sProp 𝕄 :=
  iprop((dat1 W c).Φ t.succ ∗ (dat1 W c).owesAt () t.succ
    ∗ owns (c : Thread nD τ) (st1_0 t) fullShare ((dat1 W c).after 0 t)
    ∗ owns (c : Thread nD τ) (st1_1 t) fullShare ((dat1 W c).after 1 t)
    ∗ owns (c : Thread nD τ) (st1_2 t) fullShare ((dat1 W c).after 2 t)
    ∗ owns (c : Thread nD τ) (st1_3 t) fullShare ((dat1 W c).after 3 t)
    ∗ owns (c : Thread nD τ) (st1_4 t) fullShare ((dat1 W c).after 4 t)
    ∗ owns (c : Thread nD τ) (st1_5 t) fullShare ((dat1 W c).after 5 t)
    ∗ owns (c : Thread nD τ) (st1_6 t) fullShare ((dat1 W c).after 6 t)
    ∗ owns (c : Thread nD τ) (st1_7 t) fullShare ((dat1 W c).after 7 t))

theorem body1 (c : Dev nD) (t : Fin cfg1.N) :
    pre1 W c t ⊢ wp frame (wpE (defs₀ (F := F)) Variants.none c none) Set.univ (bodyAt1 t) (fun _ => post1 W c t) := by
  unfold pre1 post1 bodyAt1
  simp only [dat1_before0, dat1_before1, dat1_before2, dat1_before3, dat1_before4, dat1_before5]
  rw [show (dat1 W c).Φ t.succ = (dat1 W c).Φ t.castSucc from rfl,
    show (dat1 W c).owesAt () t.succ = (dat1 W c).owesAt () t.castSucc from rfl,
    dat1_after0, dat1_after1, dat1_after2, dat1_after3, dat1_after4, dat1_after5, dat1_after6, dat1_after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [← row_step W c t d6, ← col_step W c t d7]
  iapply (step1 c Set.univ (grid1.coords t) _ _ _ _ _ _ _ _ _ _ _ _ _ _ _ _ (cond1_excl _) (blk1 W c 0 t) (blk1 W c 1 t) (blk1 W c 2 t) (blk1 W c 3 t) (blk1 W c 4 t) (blk1 W c 5 t) ((dat1 W c).before 6 t d6) ((dat1 W c).before 7 t d7) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem row1 (t : Fin cfg1.N) :
    defs₀ (F := F) .tc cfg1.body (cfg1.bodyArgs t (cfg1.slots t)) = bodyAt1 t := by
  unfold defs₀; rw [Defs.onTc_tc]

/-- The pipeline's demand on the second call's body, met at every step. -/
theorem obligation1 (c : Dev nD) : BodyObligation (dat1 (F := F) W c) (defs₀ (F := F)) Variants.none () Set.univ := fun t => by
  rw [bigSep_W1, bigSep_W1, row1]
  rw [show cfg1.idle 6 (cfg1.grid.coords t) = false from live1_6 _]
  exact triple_restated (body1 W c t) rfl .rfl fun _ => .rfl

end Cert.KernelIdeal.Blocks

end
-- ==== Proof.IdealRegion2.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! # The third call: half of the strictly lower triangle of the loss, and the diagonal

Step `t` handles one pair of row blocks. It adds a row of partial sums to the buffer of the pair's first block; when
that block changes the buffer starts afresh with the partial sums and the diagonal's share. The module runs one step
and names what the buffer holds after it. -/

variable (W : Dev nD → Valuation τ sig (Elt F))

/-- The first block of the step's pair, as a word. -/
def iWord2 (i : grid2.Coords) : BitVec 32 :=
  Scalar.select (Scalar.cmpi .slt (BitVec.ofNat 32 (i 1).val) (Scalar.subi 8#32 (Scalar.muli 1#32 (BitVec.ofNat 32 (i 0).val))))
    (BitVec.ofNat 32 (i 0).val) (Scalar.subi 7#32 (BitVec.ofNat 32 (i 0).val))

/-- The second block of the step's pair, as a word. -/
def jWord2 (i : grid2.Coords) : BitVec 32 :=
  Scalar.select (Scalar.cmpi .slt (BitVec.ofNat 32 (i 1).val) (Scalar.subi 8#32 (Scalar.muli 1#32 (BitVec.ofNat 32 (i 0).val))))
    (Scalar.addi (Scalar.muli 1#32 (BitVec.ofNat 32 (i 0).val)) (BitVec.ofNat 32 (i 1).val))
    (Scalar.subi (Scalar.addi (BitVec.ofNat 32 (i 1).val) 7#32) 8#32)

/-- The step's partial sums with the diagonal's share. -/
def lossNew (i : grid2.Coords) (x0 : Vec F S512x1024 .bf16) (x1 : Vec F S1024x512 .bf16) (x2 : Vec F S1x1024 .i32) (x3 : Vec F S1024x1 .i32) (x4 : Vec F S1x1024 .f32) (x5 : Vec F S1024x1 .f32) (x6 : Vec F S1x1024 .f32) (x7 : Vec F S1x1024 .f32) (x8 : Vec F S1024x1 .f32) : FVec F S1x1x1024 .f32 :=
  k2_pay5 (iWord2 i) (jWord2 i) (k2_pay1 x1 x0 x5 x4) (k2_pay2 x3 x2) (k2_pay3 x8) x7 x4 x6 x7

/-- The buffer after a step that keeps what it held. -/
def lossAdd (i : grid2.Coords) (x0 : Vec F S512x1024 .bf16) (x1 : Vec F S1024x512 .bf16) (x2 : Vec F S1x1024 .i32) (x3 : Vec F S1024x1 .i32) (x4 : Vec F S1x1024 .f32) (x5 : Vec F S1024x1 .f32) (x6 : Vec F S1x1024 .f32) (x7 : Vec F S1x1024 .f32) (x8 : Vec F S1024x1 .f32) (z : Vec F S1x1x1024 .f32) : FVec F S1x1x1024 .f32 :=
  k2_pay6 (iWord2 i) (jWord2 i) (k2_pay1 x1 x0 x5 x4) (k2_pay2 x3 x2) (k2_pay3 x8) x7 z

/-- Equal reads give equal fresh sums. -/
theorem lossNew_congr (i : grid2.Coords) {x0 y0 : Vec F S512x1024 .bf16} {x1 y1 : Vec F S1024x512 .bf16} {x2 y2 : Vec F S1x1024 .i32} {x3 y3 : Vec F S1024x1 .i32} {x4 y4 : Vec F S1x1024 .f32} {x5 y5 : Vec F S1024x1 .f32} {x6 y6 : Vec F S1x1024 .f32} {x7 y7 : Vec F S1x1024 .f32} {x8 y8 : Vec F S1024x1 .f32} {w4 : Vec F S1x1024 .f32} {w7 : Vec F S1x1024 .f32}
    (h0 : y0 = x0) (h1 : y1 = x1) (h2 : y2 = x2) (h3 : y3 = x3) (h4 : y4 = x4) (h5 : y5 = x5) (h6 : y6 = x6) (h7 : y7 = x7) (h8 : y8 = x8) (g4 : w4 = x4) (g7 : w7 = x7) :
    k2_pay5 (iWord2 i) (jWord2 i) (k2_pay1 y1 y0 y5 y4) (k2_pay2 y3 y2) (k2_pay3 y8) y7 w4 y6 w7 = lossNew i x0 x1 x2 x3 x4 x5 x6 x7 x8 := by
  subst h0 h1 h2 h3 h4 h5 h6 h7 h8 g4 g7; rfl

/-- Equal reads give equal accumulated sums. -/
theorem lossAdd_congr (i : grid2.Coords) {x0 y0 : Vec F S512x1024 .bf16} {x1 y1 : Vec F S1024x512 .bf16} {x2 y2 : Vec F S1x1024 .i32} {x3 y3 : Vec F S1024x1 .i32} {x4 y4 : Vec F S1x1024 .f32} {x5 y5 : Vec F S1024x1 .f32} {x6 y6 : Vec F S1x1024 .f32} {x7 y7 : Vec F S1x1024 .f32} {x8 y8 : Vec F S1024x1 .f32} {z w : Vec F S1x1x1024 .f32}
    (h0 : y0 = x0) (h1 : y1 = x1) (h2 : y2 = x2) (h3 : y3 = x3) (h4 : y4 = x4) (h5 : y5 = x5) (h7 : y7 = x7) (h8 : y8 = x8) (hz : w = z) :
    k2_pay6 (iWord2 i) (jWord2 i) (k2_pay1 y1 y0 y5 y4) (k2_pay2 y3 y2) (k2_pay3 y8) y7 w = lossAdd i x0 x1 x2 x3 x4 x5 x6 x7 x8 z := by
  subst h0 h1 h2 h3 h4 h5 h7 h8 hz; rfl

section Step

attribute [local irreducible] k2_pay1 k2_pay2 k2_pay3 k2_pay4 k2_pay5 k2_pay6

set_option maxHeartbeats 1000000 in
/-- One step of the third call. -/
theorem step2 (c : Dev nD) (E : Set ℕ) (i : grid2.Coords) (arg2 : Memref sig .tc .vmem S512x1024 .bf16) (harg2 : arg2.IsWhole) (arg3 : Memref sig .tc .vmem S1024x512 .bf16) (harg3 : arg3.IsWhole) (arg4 : Memref sig .tc .vmem S1x1024 .i32) (harg4 : arg4.IsWhole) (arg5 : Memref sig .tc .vmem S1024x1 .i32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1x1x1024 .f32) (harg11 : arg11.IsWhole)
    (hx : k2_cond2 i = 1#1 ↔ ¬ k2_cond1 i = 1#1)
    (x0 : Vec F S512x1024 .bf16) (x1 : Vec F S1024x512 .bf16) (x2 : Vec F S1x1024 .i32) (x3 : Vec F S1024x1 .i32) (x4 : Vec F S1x1024 .f32) (x5 : Vec F S1024x1 .f32) (x6 : Vec F S1x1024 .f32) (x7 : Vec F S1x1024 .f32) (x8 : Vec F S1024x1 .f32) (z : Vec F S1x1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare z
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ owns (c : Thread nD τ) arg11 fullShare (if k2_cond1 i = 1#1 then lossNew i x0 x1 x2 x3 x4 x5 x6 x7 x8 else lossAdd i x0 x1 x2 x3 x4 x5 x6 x7 x8 z)) -∗ K ⟨⟩))
      ⊢ wp frame (wpE (defs₀ (F := F)) Variants.none c none) E (cc2__loss_kernel i arg2 harg2 arg3 harg3 arg4 harg4 arg5 harg5 arg6 harg6 arg7 harg7 arg8 harg8 arg9 harg9 arg10 harg10 arg11 harg11) K := by
  simp only [cc2__loss_kernel_eq_skeleton]; unfold cc2__loss_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  by_cases hc1 : k2_cond1 i = 1#1
  all_goals have hc2 := hx
  all_goals simp only [hc1, not_true_eq_false, not_false_eq_true, iff_false, iff_true] at hc2
  all_goals sl_exec (disch := first | sl_exact hc1 | sl_exact hc2)
  all_goals sl_step
  all_goals iapply Hk
  all_goals
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; isplitr
    swap; · iexact H9
    ipureintro
    rw [View.read_writes_full]
    first
      | rw [if_pos hc1]; exact lossNew_congr i ((View.readAt_full _ _ _).trans hf0) ((View.readAt_full _ _ _).trans hf1) ((View.readAt_full _ _ _).trans hf2) ((View.readAt_full _ _ _).trans hf3) ((View.readAt_full _ _ _).trans hf4) ((View.readAt_full _ _ _).trans hf5) ((View.readAt_full _ _ _).trans hf6) ((View.readAt_full _ _ _).trans hf7) ((View.readAt_full _ _ _).trans hf8) ((View.readAt_full _ _ _).trans hf4) ((View.readAt_full _ _ _).trans hf7)
      | rw [if_neg hc1]; exact lossAdd_congr (y6 := x6) i ((View.readAt_full _ _ _).trans hf0) ((View.readAt_full _ _ _).trans hf1) ((View.readAt_full _ _ _).trans hf2) ((View.readAt_full _ _ _).trans hf3) ((View.readAt_full _ _ _).trans hf4) ((View.readAt_full _ _ _).trans hf5) ((View.readAt_full _ _ _).trans hf7) ((View.readAt_full _ _ _).trans hf8) ((View.readAt_full _ _ _).trans hf9)

end Step

theorem cond2_excl : ∀ i : grid2.Coords, k2_cond2 i = 1#1 ↔ ¬ k2_cond1 i = 1#1 := by decide +kernel

/-- Window `w`'s block at step `t`, read from the array as the call finds it. -/
def blk2 (c : Dev nD) (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))

/-- The step's fresh sums over the blocks it is handed. -/
def lossAt (c : Dev nD) (t : Fin cfg2.N) : FVec F S1x1x1024 .f32 :=
  lossNew (grid2.coords t) (blk2 W c 0 t) (blk2 W c 1 t) (blk2 W c 2 t) (blk2 W c 3 t) (blk2 W c 4 t) (blk2 W c 5 t) (blk2 W c 6 t) (blk2 W c 7 t) (blk2 W c 8 t)

/-- The step's sums added to what the buffer held. -/
def lossAddAt (c : Dev nD) (t : Fin cfg2.N) (z : Vec F S1x1x1024 .f32) : FVec F S1x1x1024 .f32 :=
  lossAdd (grid2.coords t) (blk2 W c 0 t) (blk2 W c 1 t) (blk2 W c 2 t) (blk2 W c 3 t) (blk2 W c 4 t) (blk2 W c 5 t) (blk2 W c 6 t) (blk2 W c 7 t) (blk2 W c 8 t) z

/-- What the buffer holds after step `n`. -/
def lossAcc (c : Dev nD) : (n : ℕ) → n < cfg2.N → Vec F S1x1x1024 .f32
  | 0, h => lossAt W c ⟨0, h⟩
  | n + 1, h => if k2_cond1 (grid2.coords ⟨n + 1, h⟩) = 1#1 then lossAt W c ⟨n + 1, h⟩ else lossAddAt W c ⟨n + 1, h⟩ (lossAcc c n (Nat.lt_of_succ_lt h))

/-- What the pipeline is told of the third call. -/
def dat2 (c : Dev nD) : Dat τ (Elt F) Unit ℕ (UR sig nD τ) ℕ cfg2 c where
  A w := W c (Proc.devRef .tc (Pipeline.arrRef spec2 w))
  after w t := match w with
    | ⟨0, _⟩ => blk2 W c 0 t
    | ⟨1, _⟩ => blk2 W c 1 t
    | ⟨2, _⟩ => blk2 W c 2 t
    | ⟨3, _⟩ => blk2 W c 3 t
    | ⟨4, _⟩ => blk2 W c 4 t
    | ⟨5, _⟩ => blk2 W c 5 t
    | ⟨6, _⟩ => blk2 W c 6 t
    | ⟨7, _⟩ => blk2 W c 7 t
    | ⟨8, _⟩ => blk2 W c 8 t
    | ⟨9, _⟩ => lossAcc W c t.val t.isLt
  Φ _ := Pipeline.scopedRest spec2 c
  q _ := fullShare
  owed _ := 0

theorem dat2_A (c : Dev nD) (w : Fin cfg2.W) : (dat2 W c).A w = W c (Proc.devRef .tc (Pipeline.arrRef spec2 w)) := by
  dsimp only [dat2]

theorem dat2_after0 (c : Dev nD) (t : Fin cfg2.N) : (dat2 W c).after 0 t = blk2 W c 0 t := by dsimp only [dat2]
theorem dat2_after1 (c : Dev nD) (t : Fin cfg2.N) : (dat2 W c).after 1 t = blk2 W c 1 t := by dsimp only [dat2]
theorem dat2_after2 (c : Dev nD) (t : Fin cfg2.N) : (dat2 W c).after 2 t = blk2 W c 2 t := by dsimp only [dat2]
theorem dat2_after3 (c : Dev nD) (t : Fin cfg2.N) : (dat2 W c).after 3 t = blk2 W c 3 t := by dsimp only [dat2]
theorem dat2_after4 (c : Dev nD) (t : Fin cfg2.N) : (dat2 W c).after 4 t = blk2 W c 4 t := by dsimp only [dat2]
theorem dat2_after5 (c : Dev nD) (t : Fin cfg2.N) : (dat2 W c).after 5 t = blk2 W c 5 t := by dsimp only [dat2]
theorem dat2_after6 (c : Dev nD) (t : Fin cfg2.N) : (dat2 W c).after 6 t = blk2 W c 6 t := by dsimp only [dat2]
theorem dat2_after7 (c : Dev nD) (t : Fin cfg2.N) : (dat2 W c).after 7 t = blk2 W c 7 t := by dsimp only [dat2]
theorem dat2_after8 (c : Dev nD) (t : Fin cfg2.N) : (dat2 W c).after 8 t = blk2 W c 8 t := by dsimp only [dat2]
theorem dat2_after9 (c : Dev nD) (t : Fin cfg2.N) : (dat2 W c).after 9 t = lossAcc W c t.val t.isLt := by dsimp only [dat2]

/-- An input whose steps leave its block in place holds that block at every step. -/
theorem before2_of (c : Dev nD) (w : Fin cfg2.W) (hw : (cfg2.win w).isOut = false) (hlive : ∀ i, cfg2.idle w i = false)
    (hclip : ∀ t t' : Fin cfg2.N, (cfg2.win w).index t = (cfg2.win w).index t' →
      (cfg2.win w).clip (cfg2.grid.coords t) = (cfg2.win w).clip (cfg2.grid.coords t'))
    (hcut : ∀ t, (cfg2.win w).cut (cfg2.grid.coords t) ((dat2 W c).after w t) = blk2 W c w t) (t : Fin cfg2.N) (d) :
    (dat2 W c).before w t d = (dat2 W c).fetched w t d :=
  (dat2 W c).before_in_eq_fetched w hw hlive hclip (fun t => by
    rw [hcut]; unfold Dat.blockOf blk2; rw [dat2_A]) t d

theorem dat2_before0 (c : Dev nD) (t : Fin cfg2.N) (d) : (dat2 W c).before 0 t d = blk2 W c 0 t :=
  (before2_of W c 0 rfl (fun _ => rfl) (fun _ _ _ => rfl) (fun t => by rw [dat2_after0]; try rfl) t d).trans (by
    unfold Dat.fetched Dat.blockOf blk2; rw [dat2_A]; try rfl)
theorem dat2_before1 (c : Dev nD) (t : Fin cfg2.N) (d) : (dat2 W c).before 1 t d = blk2 W c 1 t :=
  (before2_of W c 1 rfl (fun _ => rfl) (fun _ _ _ => rfl) (fun t => by rw [dat2_after1]; try rfl) t d).trans (by
    unfold Dat.fetched Dat.blockOf blk2; rw [dat2_A]; try rfl)
theorem dat2_before2 (c : Dev nD) (t : Fin cfg2.N) (d) : (dat2 W c).before 2 t d = blk2 W c 2 t :=
  (before2_of W c 2 rfl (fun _ => rfl) (fun _ _ _ => rfl) (fun t => by rw [dat2_after2]; try rfl) t d).trans (by
    unfold Dat.fetched Dat.blockOf blk2; rw [dat2_A]; try rfl)
theorem dat2_before3 (c : Dev nD) (t : Fin cfg2.N) (d) : (dat2 W c).before 3 t d = blk2 W c 3 t :=
  (before2_of W c 3 rfl (fun _ => rfl) (fun _ _ _ => rfl) (fun t => by rw [dat2_after3]; try rfl) t d).trans (by
    unfold Dat.fetched Dat.blockOf blk2; rw [dat2_A]; try rfl)
theorem dat2_before4 (c : Dev nD) (t : Fin cfg2.N) (d) : (dat2 W c).before 4 t d = blk2 W c 4 t :=
  (before2_of W c 4 rfl (fun _ => rfl) (fun _ _ _ => rfl) (fun t => by rw [dat2_after4]; try rfl) t d).trans (by
    unfold Dat.fetched Dat.blockOf blk2; rw [dat2_A]; try rfl)
theorem dat2_before5 (c : Dev nD) (t : Fin cfg2.N) (d) : (dat2 W c).before 5 t d = blk2 W c 5 t :=
  (before2_of W c 5 rfl (fun _ => rfl) (fun _ _ _ => rfl) (fun t => by rw [dat2_after5]; try rfl) t d).trans (by
    unfold Dat.fetched Dat.blockOf blk2; rw [dat2_A]; try rfl)
theorem dat2_before6 (c : Dev nD) (t : Fin cfg2.N) (d) : (dat2 W c).before 6 t d = blk2 W c 6 t :=
  (before2_of W c 6 rfl (fun _ => rfl) (fun _ _ _ => rfl) (fun t => by rw [dat2_after6]; try rfl) t d).trans (by
    unfold Dat.fetched Dat.blockOf blk2; rw [dat2_A]; try rfl)
theorem dat2_before7 (c : Dev nD) (t : Fin cfg2.N) (d) : (dat2 W c).before 7 t d = blk2 W c 7 t :=
  (before2_of W c 7 rfl (fun _ => rfl) (fun _ _ _ => rfl) (fun t => by rw [dat2_after7]; try rfl) t d).trans (by
    unfold Dat.fetched Dat.blockOf blk2; rw [dat2_A]; try rfl)
theorem dat2_before8 (c : Dev nD) (t : Fin cfg2.N) (d) : (dat2 W c).before 8 t d = blk2 W c 8 t :=
  (before2_of W c 8 rfl (fun _ => rfl) (fun _ _ _ => rfl) (fun t => by rw [dat2_after8]; try rfl) t d).trans (by
    unfold Dat.fetched Dat.blockOf blk2; rw [dat2_A]; try rfl)

theorem live2_9 : ∀ i : grid2.Coords, cfg2.idle (9 : Fin 10) i = false := by decide +kernel

/-- Whether the buffer is written back after a step: exactly when the next step starts afresh. -/
theorem flush2_9' : ∀ t : Fin grid2.N, t.val ≠ 0 → (k2_cond1 (grid2.coords t) = 1#1 ∨ win2_9.flush ⟨t.val - 1, Nat.lt_of_le_of_lt (Nat.sub_le _ _) t.isLt⟩ = false) := by decide +kernel

theorem cond2_zero : ∀ t : Fin grid2.N, t.val = 0 → k2_cond1 (grid2.coords t) = 1#1 := by decide +kernel

/-- The buffer after a step, from what the step finds in it. -/
theorem loss_step (c : Dev nD) (t : Fin cfg2.N) (d) :
    (if k2_cond1 (grid2.coords t) = 1#1 then lossAt W c t else lossAddAt W c t ((dat2 W c).before 9 t d)) = lossAcc W c t.val t.isLt := by
  by_cases h : k2_cond1 (grid2.coords t) = 1#1
  · rw [if_pos h]
    obtain ⟨n, hn⟩ := t
    cases n with
    | zero => rfl
    | succ n => rw [lossAcc, if_pos h]
  · have h0 : t.val ≠ 0 := fun h0 => h (cond2_zero t h0)
    rw [if_neg h, (dat2 W c).before_out_kept 9 rfl t h0 ((flush2_9' t h0).resolve_left h) live2_9 (fun _ _ => rfl) d, dat2_after9]
    obtain ⟨n, hn⟩ := t
    cases n with
    | zero => exact absurd rfl h0
    | succ n => rw [lossAcc, if_neg h]; rfl

/-- What a step is entered with, window by window. -/
def pre2 (c : Dev nD) (t : Fin cfg2.N) : sProp 𝕄 :=
  iprop((dat2 W c).Φ t.castSucc ∗ (dat2 W c).owesAt () t.castSucc
    ∗ (∃ d, owns (c : Thread nD τ) (st2_0 t) fullShare ((dat2 W c).before 0 t d))
    ∗ (∃ d, owns (c : Thread nD τ) (st2_1 t) fullShare ((dat2 W c).before 1 t d))
    ∗ (∃ d, owns (c : Thread nD τ) (st2_2 t) fullShare ((dat2 W c).before 2 t d))
    ∗ (∃ d, owns (c : Thread nD τ) (st2_3 t) fullShare ((dat2 W c).before 3 t d))
    ∗ (∃ d, owns (c : Thread nD τ) (st2_4 t) fullShare ((dat2 W c).before 4 t d))
    ∗ (∃ d, owns (c : Thread nD τ) (st2_5 t) fullShare ((dat2 W c).before 5 t d))
    ∗ (∃ d, owns (c : Thread nD τ) (st2_6 t) fullShare ((dat2 W c).before 6 t d))
    ∗ (∃ d, owns (c : Thread nD τ) (st2_7 t) fullShare ((dat2 W c).before 7 t d))
    ∗ (∃ d, owns (c : Thread nD τ) (st2_8 t) fullShare ((dat2 W c).before 8 t d))
    ∗ (∃ d, owns (c : Thread nD τ) (st2_9 t) fullShare ((dat2 W c).before 9 t d)))

/-- What a step returns, window by window. -/
def post2 (c : Dev nD) (t : Fin cfg2.N) : sProp 𝕄 :=
  iprop((dat2 W c).Φ t.succ ∗ (dat2 W c).owesAt () t.succ
    ∗ owns (c : Thread nD τ) (st2_0 t) fullShare ((dat2 W c).after 0 t)
    ∗ owns (c : Thread nD τ) (st2_1 t) fullShare ((dat2 W c).after 1 t)
    ∗ owns (c : Thread nD τ) (st2_2 t) fullShare ((dat2 W c).after 2 t)
    ∗ owns (c : Thread nD τ) (st2_3 t) fullShare ((dat2 W c).after 3 t)
    ∗ owns (c : Thread nD τ) (st2_4 t) fullShare ((dat2 W c).after 4 t)
    ∗ owns (c : Thread nD τ) (st2_5 t) fullShare ((dat2 W c).after 5 t)
    ∗ owns (c : Thread nD τ) (st2_6 t) fullShare ((dat2 W c).after 6 t)
    ∗ owns (c : Thread nD τ) (st2_7 t) fullShare ((dat2 W c).after 7 t)
    ∗ owns (c : Thread nD τ) (st2_8 t) fullShare ((dat2 W c).after 8 t)
    ∗ owns (c : Thread nD τ) (st2_9 t) fullShare ((dat2 W c).after 9 t))

theorem body2 (c : Dev nD) (t : Fin cfg2.N) :
    pre2 W c t ⊢ wp frame (wpE (defs₀ (F := F)) Variants.none c none) Set.univ (bodyAt2 t) (fun _ => post2 W c t) := by
  unfold pre2 post2 bodyAt2
  simp only [dat2_before0, dat2_before1, dat2_before2, dat2_before3, dat2_before4, dat2_before5, dat2_before6, dat2_before7, dat2_before8]
  rw [show (dat2 W c).Φ t.succ = (dat2 W c).Φ t.castSucc from rfl,
    show (dat2 W c).owesAt () t.succ = (dat2 W c).owesAt () t.castSucc from rfl,
    dat2_after0, dat2_after1, dat2_after2, dat2_after3, dat2_after4, dat2_after5, dat2_after6, dat2_after7, dat2_after8, dat2_after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [← loss_step W c t d9]
  iapply (step2 c Set.univ (grid2.coords t) _ _ _ _ _ _ _ _ _ _ _ _ _ _ _ _ _ _ _ _ (cond2_excl _) (blk2 W c 0 t) (blk2 W c 1 t) (blk2 W c 2 t) (blk2 W c 3 t) (blk2 W c 4 t) (blk2 W c 5 t) (blk2 W c 6 t) (blk2 W c 7 t) (blk2 W c 8 t) ((dat2 W c).before 9 t d9) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem row2 (t : Fin cfg2.N) :
    defs₀ (F := F) .tc cfg2.body (cfg2.bodyArgs t (cfg2.slots t)) = bodyAt2 t := by
  unfold defs₀; rw [Defs.onTc_tc]

/-- The pipeline's demand on the third call's body, met at every step. -/
theorem obligation2 (c : Dev nD) : BodyObligation (dat2 (F := F) W c) (defs₀ (F := F)) Variants.none () Set.univ := fun t => by
  rw [bigSep_W2, bigSep_W2, row2]
  rw [show cfg2.idle 9 (cfg2.grid.coords t) = false from live2_9 _]
  exact triple_restated (body2 W c t) rfl .rfl fun _ => .rfl

end Cert.KernelIdeal.Blocks

end
-- ==== Proof.IdealRun.lean ====
module

public import proofs.«01_k».proof.Proof.IdealRegion0
public import proofs.«01_k».proof.Proof.IdealRegion1
public import proofs.«01_k».proof.Proof.IdealRegion2
public import proofs.«01_k».proof.Proof.Gen.KernelIdeal.Regions
public import Idealize.ShloMosaic.Lib.Pipeline.RegionArraysS

@[expose] public section

set_option maxRecDepth 16384

noncomputable section

namespace Cert.KernelIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)
open Cert.KernelIdeal.Gen

variable {F : FTy → Type} [FloatOps F] [Named F]

local notation "𝕄" => MT nD τ sig Unit (Elt F) ℕ (UR sig nD τ) ℕ

/-! # The whole program's run

Between two items of the program every unscoped buffer is held at a known valuation: the launch contents, then each
host stretch's results, then what each call leaves in its windows' arrays. -/

variable (m : (ℓ : Loc nD τ sig) → Buf (Elt F) ℓ)

/-- At launch. -/
def W0 (c : Dev nD) : Valuation τ sig (Elt F) := fun b => m (c, b)
/-- After the first host stretch. -/
def W1 (c : Dev nD) : Valuation τ sig (Elt F) := StableHlo.after hostOps0 (W0 m c)
/-- After the first call. -/
def W2 (c : Dev nD) : Valuation τ sig (Elt F) := Pipeline.afterRegion (dat0 (W1 m) c) (W1 m c)
/-- After the second host stretch. -/
def W3 (c : Dev nD) : Valuation τ sig (Elt F) := StableHlo.after hostOps1 (W2 m c)
/-- After the second call. -/
def W4 (c : Dev nD) : Valuation τ sig (Elt F) := Pipeline.afterRegion (dat1 (W3 m) c) (W3 m c)
/-- After the third host stretch. -/
def W5 (c : Dev nD) : Valuation τ sig (Elt F) := StableHlo.after hostOps2 (W4 m c)
/-- After the third call. -/
def W6 (c : Dev nD) : Valuation τ sig (Elt F) := Pipeline.afterRegion (dat2 (W5 m) c) (W5 m c)
/-- At the end. -/
def W7 (c : Dev nD) : Valuation τ sig (Elt F) := StableHlo.after hostOps3 (W6 m c)

/-- A call's output windows' arrays are the only buffers it changes. -/
theorem W2_of (c : Dev nD) (r : Ref sig .tc) (h : ∀ w, Pipeline.arrRef spec0 w = r → (cfg0.win w).isOut = false) :
    W2 m c r = W1 m c r :=
  Pipeline.afterRegion_keeps (dat0 (W1 m) c) (W1 m c) winFacts0.arr_inj (dat0_A (W1 m) c) r h
theorem W4_of (c : Dev nD) (r : Ref sig .tc) (h : ∀ w, Pipeline.arrRef spec1 w = r → (cfg1.win w).isOut = false) :
    W4 m c r = W3 m c r :=
  Pipeline.afterRegion_keeps (dat1 (W3 m) c) (W3 m c) winFacts1.arr_inj (dat1_A (W3 m) c) r h
theorem W6_of (c : Dev nD) (r : Ref sig .tc) (h : ∀ w, Pipeline.arrRef spec2 w = r → (cfg2.win w).isOut = false) :
    W6 m c r = W5 m c r :=
  Pipeline.afterRegion_keeps (dat2 (W5 m) c) (W5 m c) winFacts2.arr_inj (dat2_A (W5 m) c) r h
/-- A host stretch changes only what it writes. -/
theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h
theorem W7_of (c : Dev nD) (r : Ref sig .tc) (h : r ∉ hostOps3_W) : W7 m c r = W6 m c r :=
  StableHlo.after_of_writes_sub hostOps3 _ hostOps3_writes h

/-- The features reach the end as launched. -/
theorem W7_arg0 (c : Dev nD) : W7 m c main_arg0 = m ((c : Thread nD τ).loc main_arg0) :=
  (W7_of m c main_arg0 (by decide)).trans <| (W6_of m c main_arg0 (by decide)).trans <|
    (W5_of m c main_arg0 (by decide)).trans <| (W4_of m c main_arg0 (by decide)).trans <|
    (W3_of m c main_arg0 (by decide)).trans <| (W2_of m c main_arg0 (by decide)).trans <|
    (W1_of m c main_arg0 (by decide)).trans rfl
/-- The labels reach the end as launched. -/
theorem W7_arg1 (c : Dev nD) : W7 m c main_arg1 = m ((c : Thread nD τ).loc main_arg1) :=
  (W7_of m c main_arg1 (by decide)).trans <| (W6_of m c main_arg1 (by decide)).trans <|
    (W5_of m c main_arg1 (by decide)).trans <| (W4_of m c main_arg1 (by decide)).trans <|
    (W3_of m c main_arg1 (by decide)).trans <| (W2_of m c main_arg1 (by decide)).trans <|
    (W1_of m c main_arg1 (by decide)).trans rfl

/-- The three calls' proof data. -/
def datas : (p : Fin 3) → (c : Dev nD) → Dat τ (Elt F) Unit ℕ (UR sig nD τ) ℕ (Pipeline.pin (pcfgs (F := F)) adm p) c
  | ⟨0, _⟩ => fun c => dat0 (W1 m) c
  | ⟨1, _⟩ => fun c => dat1 (W3 m) c
  | ⟨2, _⟩ => fun c => dat2 (W5 m) c
  | ⟨_ + 3, h⟩ => absurd h (Nat.not_lt.2 (Nat.le_add_left _ _))

/-- Every cell of a core's may be waited for, at the one index. -/
abbrev Lc : GSem nD τ sig → Finset Unit := fun g => if g.1.2 = .tc then {()} else ∅
abbrev lvc : GSem nD τ sig → Unit → ℕ := fun _ _ => 0

/-- What rides beside the buffers: the core owes nothing. -/
abbrev rest (c : Dev nD) : sProp 𝕄 := iprop((∃ Wd, owes (c : Thread nD τ) (0 : CellTallies nD τ sig Unit) Wd) ∗ emp ∗ emp)

theorem cut (p : Fin 3) : Pipeline.LevelCut (pcfgs (F := F)) adm () Lc lvc p (fun _ => 0) (fun _ => 0) where
  hι _ _ _ := by simp [Lc]
  hιb _ _ _ := Nat.le_refl _
  hD _ _ _ h := absurd h (Nat.lt_irrefl _)

theorem drop_emp (P : sProp 𝕄) : iprop(P ∗ emp) ⊢ P := by iintro ⟨H, -⟩; iexact H
theorem add_emp (P : sProp 𝕄) : P ⊢ iprop(P ∗ emp) := by
  iintro H
  isplitl [H]; · iexact H
  iempintro

/-- Between steps a call keeps only the scoped buffers none of its windows stages. -/
theorem phi0 (c : Dev nD) (t) : (datas m 0 c).Φ t = Pipeline.scopedRest (Pipeline.pin (pcfgs (F := F)) adm 0).spec c := by
  dsimp only [datas, dat0]
  dsimp only [Pipeline.pin]
  rfl
theorem phi1 (c : Dev nD) (t) : (datas m 1 c).Φ t = Pipeline.scopedRest (Pipeline.pin (pcfgs (F := F)) adm 1).spec c := by
  dsimp only [datas, dat1]
  dsimp only [Pipeline.pin]
  rfl
theorem phi2 (c : Dev nD) (t) : (datas m 2 c).Φ t = Pipeline.scopedRest (Pipeline.pin (pcfgs (F := F)) adm 2).spec c := by
  dsimp only [datas, dat2]
  dsimp only [Pipeline.pin]
  rfl

/-- The first call's record. -/
def reg0 : RegionSeg (pcfgs (F := F)) adm (datas m) () defs₀ Variants.none Lc lvc 0 :=
  RegionSeg.ofHeldIn pcfgs adm (datas m) () defs₀ Variants.none Lc lvc 0 (fun _ => 0) (Pipeline.ucRefs τ sig) (fun _ => iprop(emp)) (fun _ => iprop(emp))
    (Pipeline.LaunchFacts.toP launch0) rfl (fun c => (obligation0 (W1 m) c).loose) (fun _ _ => rfl) (fun _ => rfl)
    (fun c w => (dat0 (W1 m) c).share_full (fun _ => rfl) w)
    (fun c => by rw [phi0 m c 0]; exact drop_emp _) (fun c => by rw [phi0 m c]; exact add_emp _)
    (fun _ => 0) (cut 0) (fun _ => iprop(emp)) (W1 m) (fun c w => rfl)
/-- The second call's record. -/
def reg1 : RegionSeg (pcfgs (F := F)) adm (datas m) () defs₀ Variants.none Lc lvc 1 :=
  RegionSeg.ofHeldIn pcfgs adm (datas m) () defs₀ Variants.none Lc lvc 1 (fun _ => 0) (Pipeline.ucRefs τ sig) (fun _ => iprop(emp)) (fun _ => iprop(emp))
    (Pipeline.LaunchFacts.toP launch1) rfl (fun c => (obligation1 (W3 m) c).loose) (fun _ _ => rfl) (fun _ => rfl)
    (fun c w => (dat1 (W3 m) c).share_full (fun _ => rfl) w)
    (fun c => by rw [phi1 m c 0]; exact drop_emp _) (fun c => by rw [phi1 m c]; exact add_emp _)
    (fun _ => 0) (cut 1) (fun _ => iprop(emp)) (W3 m) (fun c w => rfl)
/-- The third call's record. -/
def reg2 : RegionSeg (pcfgs (F := F)) adm (datas m) () defs₀ Variants.none Lc lvc 2 :=
  RegionSeg.ofHeldIn pcfgs adm (datas m) () defs₀ Variants.none Lc lvc 2 (fun _ => 0) (Pipeline.ucRefs τ sig) (fun _ => iprop(emp)) (fun _ => iprop(emp))
    (Pipeline.LaunchFacts.toP launch2) rfl (fun c => (obligation2 (W5 m) c).loose) (fun _ _ => rfl) (fun _ => rfl)
    (fun c w => (dat2 (W5 m) c).share_full (fun _ => rfl) w)
    (fun c => by rw [phi2 m c 0]; exact drop_emp _) (fun c => by rw [phi2 m c]; exact add_emp _)
    (fun _ => 0) (cut 2) (fun _ => iprop(emp)) (W5 m) (fun c w => rfl)

/-! Each call is entered and left with every unscoped buffer held. -/

theorem sub0 : Pipeline.arrRefs (τ := τ) (pcfgs (F := F) 0).spec ⊆ Pipeline.ucRefs τ sig := Pipeline.arrRefs_sub_ucRefs spec0 (by decide)
theorem enter0 (c : Dev nD) : iprop(StableHlo.held (c : Thread nD τ) (Pipeline.ucRefs τ sig) (W1 m c) ∗ rest c) ⊢ (reg0 m).pre c := by
  unfold reg0; refine BIBase.Entails.trans ?_ (RegionSeg.ofHeldIn_pre sub0 c); exact .rfl
theorem after0 (c : Dev nD) : Pipeline.afterRegion (datas m 0 c) (W1 m c) = W2 m c := by
  unfold W2; dsimp only [datas]
theorem leave0 (c : Dev nD) : (reg0 m).post c ⊢ iprop(StableHlo.held (c : Thread nD τ) (Pipeline.ucRefs τ sig) (W2 m c) ∗ rest c) := by
  rw [← after0]; unfold reg0; exact RegionSeg.ofHeldIn_post sub0 c
theorem sub1 : Pipeline.arrRefs (τ := τ) (pcfgs (F := F) 1).spec ⊆ Pipeline.ucRefs τ sig := Pipeline.arrRefs_sub_ucRefs spec1 (by decide)
theorem enter1 (c : Dev nD) : iprop(StableHlo.held (c : Thread nD τ) (Pipeline.ucRefs τ sig) (W3 m c) ∗ rest c) ⊢ (reg1 m).pre c := by
  unfold reg1; refine BIBase.Entails.trans ?_ (RegionSeg.ofHeldIn_pre sub1 c); exact .rfl
theorem after1 (c : Dev nD) : Pipeline.afterRegion (datas m 1 c) (W3 m c) = W4 m c := by
  unfold W4; dsimp only [datas]
theorem leave1 (c : Dev nD) : (reg1 m).post c ⊢ iprop(StableHlo.held (c : Thread nD τ) (Pipeline.ucRefs τ sig) (W4 m c) ∗ rest c) := by
  rw [← after1]; unfold reg1; exact RegionSeg.ofHeldIn_post sub1 c
theorem sub2 : Pipeline.arrRefs (τ := τ) (pcfgs (F := F) 2).spec ⊆ Pipeline.ucRefs τ sig := Pipeline.arrRefs_sub_ucRefs spec2 (by decide)
theorem enter2 (c : Dev nD) : iprop(StableHlo.held (c : Thread nD τ) (Pipeline.ucRefs τ sig) (W5 m c) ∗ rest c) ⊢ (reg2 m).pre c := by
  unfold reg2; refine BIBase.Entails.trans ?_ (RegionSeg.ofHeldIn_pre sub2 c); exact .rfl
theorem after2 (c : Dev nD) : Pipeline.afterRegion (datas m 2 c) (W5 m c) = W6 m c := by
  unfold W6; dsimp only [datas]
theorem leave2 (c : Dev nD) : (reg2 m).post c ⊢ iprop(StableHlo.held (c : Thread nD τ) (Pipeline.ucRefs τ sig) (W6 m c) ∗ rest c) := by
  rw [← after2]; unfold reg2; exact RegionSeg.ofHeldIn_post sub2 c

/-- A host stretch's record, entered with the buffers at `V`. -/
def host (ops : List (HloOp τ sig (Elt F))) (hs : ops.Forall fun op => op.bufs ⊆ StableHlo.tcRefs τ sig) (hf : ops.Forall fun op => op.fresh = ∅)
    (V : Dev nD → Valuation τ sig (Elt F)) : HostSeg (Ix := Unit) (Name := ℕ) (U := UR sig nD τ) (Lvl := ℕ) (pcfgs (F := F)) defs₀ Variants.none Lc lvc :=
  HostSeg.ofOps _ _ _ _ _ (Pipeline.ucRefs τ sig) ops (fun op h => Pipeline.sub_ucRefs op ((List.forall_iff_forall_mem.mp hs) op h))
    (fun op h => (List.forall_iff_forall_mem.mp hf) op h) V rest

/-- The program as its segments. -/
abbrev items : List (Seg (pcfgs (F := F)) adm (datas m) () defs₀ Variants.none Lc lvc) :=
  [.host (host hostOps0 hostOps0_sub hostOps0_fresh (W0 m)), .region (reg0 m), .host (host hostOps1 hostOps1_sub hostOps1_fresh (W2 m)), .region (reg1 m),
    .host (host hostOps2 hostOps2_sub hostOps2_fresh (W4 m)), .region (reg2 m), .host (host hostOps3 hostOps3_sub hostOps3_fresh (W6 m))]

set_option maxHeartbeats 1000000 in
set_option backward.isDefEq.respectTransparency.types false in
/-- Every weakly fair execution terminates, and ends with every unscoped buffer at `W7` and every counter at zero. -/
theorem run (ρ : Dev nD → PrngReg) :
    θ_run defs (onTc (τ := τ) (main (F := F))) ⟨m, fun _ => 0, ρ⟩ (fun r => (∀ (c : Dev nD) (b : Ref sig .tc), b.isScoped = false →
      r.2.mem ((c.tc : Thread nD τ).loc b) = W7 m c b) ∧ r.2.sem = fun _ => 0) := by
  refine Pipeline.θ_run_regions_kit_dev_sems (pcfgs (F := F)) adm (datas m) () cellOf_inj emb₁ defs₀ Variants.none Lc lvc m ρ main
    (fun _ => items m)
    (fun c Q => by
      rewrite [main_chain c, Seg.run_eq_chain,
        show (items m).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [items, Seg.pipes_host, Seg.pipes_region, Seg.pipes_nil]; decide) (fun _ => 0) (fun g h => if_neg h)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rest c))
    (Tₙ := fun c => StableHlo.held (c : Thread nD τ) (Pipeline.ucRefs τ sig) (W7 m c))
    (hch := fun c => ⟨.rfl,
      enter0 m c, leave0 m c, enter1 m c, leave1 m c, enter2 m c, leave2 m c,
      sep_mono .rfl (by iintro ⟨HO, -⟩; iexact HO)⟩)
    (hinit := ?_) (QY := fun c s => ∀ b ∈ Pipeline.ucRefs τ sig, s.mem ((c.tc : Thread nD τ).1, b) = W7 m c b)
    (hfin := fun c s' => ?_)
    (hQ := fun _ h hz => ⟨fun c b hb => h c (Proc.devRef .tc b) (Pipeline.devRef_mem_ucRefs hb), funext fun g => hz g (.inr (regions_no_unscoped g.2))⟩)
  · refine Pipeline.initEach Lc lvc fun c => ?_
    rw [show unscopedBufs c (fun b => m ((c.tc : Thread nD τ).loc b)) = StableHlo.held (c.tc : Thread nD τ) (Pipeline.ucRefs τ sig) (W0 m c)
        from Pipeline.unscopedBufs_held (Ix := Unit) (Name := ℕ) (U := UR sig nD τ) (Lvl := ℕ) c (W0 m c)]
    iintro ⟨⟨Hh, -, HO, -⟩, -⟩
    imodintro
    isplitl [Hh]; · iexact Hh
    isplitl [HO]; · iexists _; iexact HO
    isplitr <;> iempintro
  · unfold StableHlo.held
    iintro ⟨Hh, HSI⟩
    ihave Hr := (pointsTo_read_all (Pipeline.ucRefs τ sig) (fun b => ((c.tc : Thread nD τ).1, b)) (W7 m c) s') $$ [Hh HSI]
    · isplitl [Hh] <;> iassumption
    imodintro; iexact Hr

/-- The run with the arguments and the result named. -/
theorem run_named (ρ : Dev nD → PrngReg) :
    θ_run defs (onTc (τ := τ) (main (F := F))) ⟨m, fun _ => 0, ρ⟩ (fun r => (∀ c : Dev nD,
      r.2.mem ((c.tc : Thread nD τ).loc main_v0) = W7 m c main_v0
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs (onTc (τ := τ) (main (F := F))) ⟨m, fun _ => 0, ρ⟩).mono (fun r h => ⟨fun c => ⟨h.1 c main_v0 (by decide),
    (h.1 c main_arg0 (by decide)).trans (W7_arg0 m c), (h.1 c main_arg1 (by decide)).trans (W7_arg1 m c)⟩, h.2⟩) (run m ρ)

end Cert.KernelIdeal.Blocks

end
-- ==== Proof.Frames.lean ====
module

public import proofs.«01_k».proof.Defs
public import proofs.«01_k».proof.Proof.Gen.ReferenceIdeal.Run
public import proofs.«01_k».proof.Proof.IdealRun
public import proofs.«01_k».proof.Proof.BitsRun
public import Idealize.ShloMosaic.Adequacy

@[expose] public section

noncomputable section

namespace Cert.Frames

open Idealize.ShloMosaic Idealize.SL.Sem

/-- The kernel's run: it ends, its arguments are unchanged and every counter is back at zero. -/
theorem frame_kernel : Cert.quiescent_Kernel := fun m ρ _ =>
  (θ_run Cert.Kernel.defs _ _).mono (fun _ h => ⟨fun c => (h.1 c).2, h.2⟩) (Cert.Kernel.Blocks.run_named (F := Bits) m ρ)

/-- The idealized kernel's run, of which the same is said, from every memory. -/
theorem frame_ideal (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c => (h.1 c).2, h.2⟩) (Cert.KernelIdeal.Blocks.run_named (F := Ideal) m ρ)

/-- The reference's run: straight-line host operations, and no semaphore is declared. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- The two named constants stand for the reals that the kernel's words round. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "margin_log2e" .f32 0x3F13BB63#32
      (((13421773 / 33554432) * (Real.log 2)⁻¹ : ℝ) : EReal) rfl⟩

end Cert.Frames

end
-- ==== Proof.LossMath.lean ====
module

public import Idealize.ShloMosaic.PureOps.Ideal
public import Mathlib.Tactic.Ring
public import Mathlib.Algebra.Order.BigOperators.Group.Finset

@[expose] public section

noncomputable section

namespace Cert.LossMath

open Finset

/-! # The loss over the reals

Rows are numbered by naturals; `x a k` is feature `k` of row `a`, `lab a` its class. The definitions are the plain
formulas; the theorems regroup their sums by blocks of rows and by the triangle of pairs. -/

/-- The clamp under the root: the number the program's word for 1e-12 denotes. -/
def eps : ℝ := 9223372 / 9223372036854775808
/-- The margin: the number the program's word for 0.4 denotes. -/
def mu : ℝ := 13421773 / 33554432

theorem eps_pos : 0 < eps := by unfold eps; norm_num

variable (x : ℕ → ℕ → ℝ) (lab : ℕ → BitVec 32)

/-- A row's squared norm. -/
def sq (a : ℕ) : ℝ := ∑ k : Fin 512, x a k * x a k
/-- Two rows' inner product. -/
def gram (a b : ℕ) : ℝ := ∑ k : Fin 512, x a k * x b k
/-- Two rows' distance. -/
def dist (a b : ℕ) : ℝ := √(max (sq x a + sq x b - 2 * gram x a b) eps)
/-- The weight of a pair of different classes. -/
def ex (a b : ℕ) : ℝ := if lab a = lab b then 0 else Real.exp (mu - dist x a b)
/-- A row's sum of weights. -/
def S (a : ℕ) : ℝ := ∑ b ∈ range 8192, ex x lab a b
/-- A pair's term before it is squared. -/
def J (a b : ℕ) : ℝ := if lab a = lab b then (if S x lab a + S x lab b ≤ 0 then 0 else max (Real.log (S x lab a + S x lab b) + dist x a b) 0) else 0
/-- The number of pairs of one class. -/
def npos : ℝ := ∑ a ∈ range 8192, ∑ b ∈ range 8192, if lab a = lab b then 1 else 0
/-- The loss. -/
def loss : ℝ := (∑ a ∈ range 8192, ∑ b ∈ range 8192, J x lab a b * J x lab a b) / (2 * npos lab)

theorem gram_comm (a b : ℕ) : gram x a b = gram x b a := sum_congr rfl fun k _ => mul_comm _ _
theorem dist_comm (a b : ℕ) : dist x a b = dist x b a := by unfold dist; rw [gram_comm, add_comm (sq x a)]
theorem ex_comm (a b : ℕ) : ex x lab a b = ex x lab b a := by unfold ex; rw [dist_comm]; simp only [eq_comm]
theorem ex_self (a : ℕ) : ex x lab a a = 0 := by simp [ex]
theorem J_comm (a b : ℕ) : J x lab a b = J x lab b a := by
  unfold J; rw [dist_comm, add_comm (S x lab a)]; simp only [eq_comm]

/-- A row's distance to itself is the root of the clamp. -/
theorem dist_self (a : ℕ) : dist x a a = √eps := by
  unfold dist
  rw [show gram x a a = sq x a from rfl, show sq x a + sq x a - 2 * sq x a = 0 by ring, max_eq_right eps_pos.le]

theorem ex_nonneg (a b : ℕ) : 0 ≤ ex x lab a b := by
  unfold ex; split
  · exact le_rfl
  · exact (Real.exp_pos _).le
theorem S_nonneg (a : ℕ) : 0 ≤ S x lab a := sum_nonneg fun b _ => ex_nonneg x lab a b

theorem npos_pos : 0 < npos lab := by
  unfold npos
  have hn : ∀ a b : ℕ, (0 : ℝ) ≤ if lab a = lab b then 1 else 0 := fun a b => by split <;> norm_num
  have h0 : (0 : ℕ) ∈ range 8192 := mem_range.2 (by norm_num)
  refine sum_pos' (fun a _ => sum_nonneg fun b _ => hn a b) ⟨0, h0, sum_pos' (fun b _ => hn 0 b) ⟨0, h0, ?_⟩⟩
  rw [if_pos rfl]; exact one_pos

/-! ## Regrouping -/

/-- A sum over `n * m` numbers, block by block. -/
theorem sum_blocks (f : ℕ → ℝ) (n m : ℕ) : ∑ a ∈ range (n * m), f a = ∑ j ∈ range n, ∑ r : Fin m, f (j * m + r) := by
  induction n with
  | zero => simp
  | succ n ih =>
    rw [Nat.succ_mul, sum_range_add, ih, sum_range_succ, Fin.sum_univ_eq_sum_range (fun r => f (n * m + r))]

/-- The rows after row `c` of block `i`, block by block from `i` on. -/
theorem sum_after (f : ℕ → ℝ) (i c : ℕ) :
    ∑ j ∈ Icc i 7, ∑ r : Fin 1024, (if i * 1024 + c < j * 1024 + r then f (j * 1024 + r) else 0)
      = ∑ b ∈ range 8192, if i * 1024 + c < b then f b else 0 := by
  rw [show (8192 : ℕ) = 8 * 1024 from rfl, sum_blocks]
  refine sum_subset (fun j hj => mem_range.2 (by have := (mem_Icc.1 hj).2; omega)) fun j hj hn => ?_
  have hji : j < i := by
    by_contra h
    exact hn (mem_Icc.2 ⟨not_lt.1 h, by have := mem_range.1 hj; omega⟩)
  refine sum_eq_zero fun r _ => if_neg ?_
  have := r.isLt
  omega

/-- The rows before row `r` of block `j`, block by block up to `j`. -/
theorem sum_before (f : ℕ → ℝ) (j r : ℕ) (hj : j < 8) (hr : r < 1024) :
    ∑ i ∈ range (j + 1), ∑ c : Fin 1024, (if i * 1024 + c < j * 1024 + r then f (i * 1024 + c) else 0)
      = ∑ a ∈ range 8192, if a < j * 1024 + r then f a else 0 := by
  rw [show (8192 : ℕ) = 8 * 1024 from rfl, sum_blocks]
  refine sum_subset (fun i hi => mem_range.2 (by have := mem_range.1 hi; omega)) fun i hi hn => ?_
  have hji : j < i := by
    by_contra h
    exact hn (mem_range.2 (by omega))
  refine sum_eq_zero fun c _ => if_neg ?_
  have := c.isLt
  omega

/-- A row's sum of weights from the two triangles. -/
theorem S_split (a : ℕ) :
    (∑ b ∈ range 8192, if a < b then ex x lab b a else 0) + (∑ b ∈ range 8192, if b < a then ex x lab a b else 0) = S x lab a := by
  unfold S
  rw [← sum_add_distrib]
  refine sum_congr rfl fun b _ => ?_
  rcases lt_trichotomy a b with h | h | h
  · rw [if_pos h, if_neg (by omega), add_zero, ex_comm]
  · subst h; simp [ex_self]
  · rw [if_neg (by omega), if_pos h, zero_add]

/-- The whole square of pairs is twice the strict triangle and the diagonal. -/
theorem total_split :
    ∑ a ∈ range 8192, ((∑ b ∈ range 8192, if a < b then J x lab b a * J x lab b a else 0) + 1 / 2 * J x lab a a * J x lab a a)
      = (∑ a ∈ range 8192, ∑ b ∈ range 8192, J x lab a b * J x lab a b) / 2 := by
  have h1 : ∑ a ∈ range 8192, ∑ b ∈ range 8192, J x lab a b * J x lab a b
      = (∑ a ∈ range 8192, ∑ b ∈ range 8192, if a < b then J x lab b a * J x lab b a else 0)
        + (∑ a ∈ range 8192, ∑ b ∈ range 8192, if b < a then J x lab a b * J x lab a b else 0)
        + ∑ a ∈ range 8192, J x lab a a * J x lab a a := by
    rw [← sum_add_distrib, ← sum_add_distrib]
    refine sum_congr rfl fun a ha => ?_
    rw [show J x lab a a * J x lab a a = ∑ b ∈ range 8192, if a = b then J x lab a b * J x lab a b else 0 from by
      rw [sum_ite_eq, if_pos ha], ← sum_add_distrib, ← sum_add_distrib]
    refine sum_congr rfl fun b _ => ?_
    rcases lt_trichotomy a b with h | h | h
    · rw [if_pos h, if_neg (by omega), if_neg (by omega), add_zero, add_zero, J_comm]
    · subst h; simp
    · rw [if_neg (by omega), if_pos h, if_neg (by omega), add_zero, zero_add]
  have h2 : (∑ a ∈ range 8192, ∑ b ∈ range 8192, if b < a then J x lab a b * J x lab a b else 0)
      = ∑ a ∈ range 8192, ∑ b ∈ range 8192, if a < b then J x lab b a * J x lab b a else 0 := sum_comm
  rw [h1, h2, sum_add_distrib]
  rw [show ∑ a ∈ range 8192, 1 / 2 * J x lab a a * J x lab a a = 1 / 2 * ∑ a ∈ range 8192, J x lab a a * J x lab a a from by
    rw [mul_sum]; exact sum_congr rfl fun a _ => mul_assoc _ _ _]
  ring

/-- The squared class counts add up to the pairs of one class. -/
theorem counts_sq (hlab : ∀ a, a < 8192 → (lab a).toNat < 128) :
    ∑ k : Fin 128, (∑ a ∈ range 8192, if lab a = BitVec.ofNat 32 k then (1 : ℝ) else 0) * (∑ a ∈ range 8192, if lab a = BitVec.ofNat 32 k then (1 : ℝ) else 0)
      = npos lab := by
  unfold npos
  simp_rw [sum_mul_sum]
  rw [sum_comm]
  refine sum_congr rfl fun a ha => ?_
  rw [sum_comm]
  refine sum_congr rfl fun b hb => ?_
  have hk := hlab a (mem_range.1 ha)
  have e : lab a = BitVec.ofNat 32 (lab a).toNat := by simp
  rw [sum_eq_single (⟨(lab a).toNat, hk⟩ : Fin 128)]
  · show (if lab a = BitVec.ofNat 32 (lab a).toNat then (1 : ℝ) else 0) * (if lab b = BitVec.ofNat 32 (lab a).toNat then (1 : ℝ) else 0) = _
    rw [← e, if_pos rfl, one_mul]
    simp only [eq_comm]
  · intro k _ hne
    rw [if_neg, zero_mul]
    intro h
    refine hne (Fin.ext ?_)
    have := congrArg BitVec.toNat h
    rw [BitVec.toNat_ofNat, Nat.mod_eq_of_lt (by have := k.isLt; omega)] at this
    exact this.symm
  · intro h; exact absurd (mem_univ _) h

end Cert.LossMath

end
-- ==== Proof.Scalars.lean ====
module

public import proofs.«01_k».proof.Proof.LossMath
public import proofs.«01_k».proof.KernelIdeal
public import Idealize.ShloMosaic.PureOps.Ideal.Laws
public import Idealize.ShloMosaic.PureOps.IdealRules

@[expose] public section

noncomputable section

namespace Cert.Scalars

open Idealize.ShloMosaic
open Cert.LossMath

/-! # Single numbers: the program's constants and the operations on finite values -/

theorem one_f32 : Ideal.ofBits .f32 0x3F800000#32 = ((1 : ℝ) : EReal) := by
  simp [Ideal.ofBits, Ideal.ieee, -EReal.coe_mul]; norm_num
theorem one_bf16 : Ideal.ofBits .bf16 0x3F80#16 = ((1 : ℝ) : EReal) := by
  simp [Ideal.ofBits, Ideal.ieee, -EReal.coe_mul]; norm_num
theorem zero_f32 : Ideal.ofBits .f32 0x00000000#32 = ((0 : ℝ) : EReal) := by
  simp [Ideal.ofBits, Ideal.ieee, -EReal.coe_mul]
theorem two_f32 : Ideal.ofBits .f32 0x40000000#32 = ((2 : ℝ) : EReal) := by
  simp [Ideal.ofBits, Ideal.ieee, -EReal.coe_mul]; norm_num
theorem negTwo_f32 : Ideal.ofBits .f32 0xC0000000#32 = ((-2 : ℝ) : EReal) := by
  simp [Ideal.ofBits, Ideal.ieee, -EReal.coe_mul]; norm_num
theorem half_f32 : Ideal.ofBits .f32 0x3F000000#32 = ((1 / 2 : ℝ) : EReal) := by
  simp [Ideal.ofBits, Ideal.ieee, -EReal.coe_mul]; norm_num
theorem eps_f32 : Ideal.ofBits .f32 0x2B8CBCCC#32 = ((eps : ℝ) : EReal) := by
  simp [Ideal.ofBits, Ideal.ieee, eps, -EReal.coe_mul]; norm_num
theorem mu_f32 : Ideal.ofBits .f32 0x3ECCCCCD#32 = ((mu : ℝ) : EReal) := by
  simp [Ideal.ofBits, Ideal.ieee, mu, -EReal.coe_mul]; norm_num

theorem log2e_named : (Named.named (F := Ideal) Cert.KernelIdeal.κ "log2e" (φ := .f32) 0x3FB8AA3B#32) = (((Real.log 2)⁻¹ : ℝ) : EReal) :=
  IdealRules.named_const.ideal_named_scalar _ _ _ _ rfl
theorem margin_named : (Named.named (F := Ideal) Cert.KernelIdeal.κ "margin_log2e" (φ := .f32) 0x3F13BB63#32) = ((mu * (Real.log 2)⁻¹ : ℝ) : EReal) :=
  IdealRules.named_const.ideal_named_scalar _ _ _ _ rfl

/-- A finite sum of finite values is finite. -/
theorem sum_coe {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem max_coe (a b : ℝ) : max (a : EReal) (b : EReal) = ((max a b : ℝ) : EReal) :=
  (EReal.coe_strictMono.monotone.map_max).symm

/-- A positive value times its reciprocal root is its root. -/
theorem mul_rsqrt {m : ℝ} (h : 0 < m) : (m : EReal) * Ideal.rsqrt (m : EReal) = ((√m : ℝ) : EReal) := by
  rw [Ideal.rsqrt_coe, if_neg h.le.not_gt, if_neg h.ne', ← EReal.coe_mul]
  congr 1
  have hs : √m ≠ 0 := (Real.sqrt_pos.2 h).ne'
  field_simp
  exact (Real.sq_sqrt h.le).symm

/-- A power of two whose exponent was scaled by the logarithm of two is an exponential. -/
theorem exp2_scaled (d : ℝ) :
    Ideal.exp2 (((mu * (Real.log 2)⁻¹ : ℝ) : EReal) - (((Real.log 2)⁻¹ : ℝ) : EReal) * (d : EReal)) = ((Real.exp (mu - d) : ℝ) : EReal) := by
  rw [← EReal.coe_mul, ← EReal.coe_sub]
  show ((Real.rpow 2 _ : ℝ) : EReal) = _
  have h : Real.log 2 ≠ 0 := (Real.log_pos (by norm_num)).ne'
  refine congrArg _ ((Real.rpow_def_of_pos two_pos _).trans (congrArg Real.exp ?_))
  field_simp

/-- The clamped logarithm plus a distance: at a sum of zero the logarithm is minus infinity and the clamp answers zero. -/
theorem max_log (s d : ℝ) : max (Ideal.log (s : EReal) + (d : EReal)) ((0 : ℝ) : EReal) = ((if s ≤ 0 then 0 else max (Real.log s + d) 0 : ℝ) : EReal) := by
  show max ((if s ≤ 0 then ⊥ else ((Real.log s : ℝ) : EReal)) + _) _ = _
  by_cases h : s ≤ 0
  · rw [if_pos h, if_pos h, EReal.bot_add]; exact max_eq_right bot_le
  · rw [if_neg h, if_neg h, ← EReal.coe_add, max_coe]

end Cert.Scalars
-- ==== Proof.RefValue.lean ====
module

public import proofs.«01_k».proof.Proof.Gen.ReferenceIdeal.Read
public import proofs.«01_k».proof.Proof.LossMath
public import proofs.«01_k».proof.Proof.Scalars
public import Idealize.ShloMosaic.Lib.WordCmp
public import Idealize.ShloMosaic.Lib.ReduceAll

@[expose] public section

noncomputable section

namespace Cert.RefValue

open Idealize.ShloMosaic Idealize.ShloMosaic.ValueIdx
open Cert.ReferenceIdeal Cert.ReferenceIdeal.Gen Cert.ReferenceIdeal.Read Cert.LossMath Cert.Scalars
open Finset (range)

/-! # The reference's result is the loss -/

/-- Adding up words in a list that hold small numbers. -/
theorem foldl_count {ι : Type} (g : ι → BitVec 32) (k : ι → ℕ) (hg : ∀ n, g n = BitVec.ofNat 32 (k n)) :
    ∀ (l : List ι) (s : ℕ), l.foldl (fun r n => IntOp.addi r (g n)) (BitVec.ofNat 32 s) = BitVec.ofNat 32 (s + (l.map k).sum)
  | [], s => by simp
  | a :: l, s => by
    rw [List.foldl_cons, hg a, WordCmp.addi_ofNat, foldl_count g k hg l (s + k a), List.map_cons, List.sum_cons, add_assoc]

/-- A count over every index, as the host adds it up. -/
theorem reduce_count {s t u : Shape} {axes : List (Fin s.rank)} [Subsingleton t.Idx] (f : s.Idx → BitVec 32) (k : s.Idx → ℕ) (hf : ∀ i, f i = BitVec.ofNat 32 (k i))
    (init : u.Idx → BitVec 32) (h : s.ReducesTo axes t) (hu : 0 < u.numel) (hi : init (Shape.Idx.first hu) = 0#32) (j : t.Idx) :
    Host.reduce IntOp.addi f init h hu j = BitVec.ofNat 32 (∑ i, k i) := by
  unfold Host.reduce
  rw [hi, List.filter_eq_self.2 fun n _ => decide_eq_true (Subsingleton.elim _ _)]
  refine (foldl_count (fun n => f (s.rowMajor.symm n)) (fun n => k (s.rowMajor.symm n)) (fun n => hf _) _ 0).trans ?_
  rw [zero_add, ← List.ofFn_eq_map, List.sum_ofFn, Equiv.sum_comp s.rowMajor.symm k]

variable (x0 : (⟨S8192x512, .f32⟩ : BufTy).Contents (Elt Ideal)) (x1 : (⟨S8192, .i32⟩ : BufTy).Contents (Elt Ideal)) (x : ℕ → ℕ → ℝ) (lab : ℕ → BitVec 32)
  (hx : ∀ i : S8192x512.Idx, x0 i = ((x (i 0).val (i 1).val : ℝ) : EReal)) (hl : ∀ i : S8192.Idx, x1 i = lab (i 0).val)

include hx in
/-- A row's squared norm. -/
theorem norm_eq (i : S8192.Idx) : val_main_v1 (F := Ideal) x0 i = ((LossMath.sq x (i 0).val : ℝ) : EReal) := by
  rw [val_main_v1_apply, show val_main_cst (F := Ideal) (Shape.Idx.first h_S_) = ((0 : ℝ) : EReal) from zero_f32, EReal.coe_zero, zero_add]
  unfold LossMath.sq
  rw [← sum_coe]
  refine Finset.sum_congr rfl fun (k : Fin 512) _ => ?_
  rw [EReal.coe_mul]
  exact congrArg₂ (fun u v : EReal => u * v) (hx (idx_main_v1 i k)) (hx (idx_main_v1 i k))

include hx in
/-- Two rows' product. -/
theorem gram_eq (i : S8192x8192.Idx) : val_main_v8 (F := Ideal) x0 i = ((gram x (i 0).val (i 1).val : ℝ) : EReal) := by
  rw [val_main_v8_apply]
  unfold gram
  rw [← sum_coe]
  refine Finset.sum_congr rfl fun (k : Fin 512) _ => ?_
  rw [EReal.coe_mul, val_main_v7_apply]
  exact congrArg₂ (fun u v : EReal => u * v) (hx (lidx_main_v8 i k)) (hx (idx_main_v7 (ridx_main_v8 i k)))

include hx in
/-- Two rows' distance. -/
theorem dist_eq (i : S8192x8192.Idx) : val_main_v14 (F := Ideal) x0 i = ((LossMath.dist x (i 0).val (i 1).val : ℝ) : EReal) := by
  have hs : val_main_v6 (F := Ideal) x0 i = ((LossMath.sq x (i 0).val + LossMath.sq x (i 1).val : ℝ) : EReal) := by
    rw [val_main_v6_apply, val_main_v4_apply, val_main_v5_apply, val_main_v2_apply, val_main_v3_apply, norm_eq x0 x hx, norm_eq x0 x hx, EReal.coe_add]
    rfl
  have hg : val_main_v10 (F := Ideal) x0 i = ((2 * gram x (i 0).val (i 1).val : ℝ) : EReal) := by
    rw [val_main_v10_apply, val_main_v9_apply, gram_eq x0 x hx, EReal.coe_mul, ← two_f32]
    rfl
  have hm : val_main_v13 (F := Ideal) x0 i = ((max (LossMath.sq x (i 0).val + LossMath.sq x (i 1).val - 2 * gram x (i 0).val (i 1).val) eps : ℝ) : EReal) := by
    rw [val_main_v13_apply, val_main_v11_apply, val_main_v12_apply, hs, hg, ← max_coe, EReal.coe_sub, ← eps_f32]
    rfl
  rw [val_main_v14_apply, hm]
  exact if_neg (not_lt.2 (le_max_of_le_right eps_pos.le))

include hl in
/-- Whether two rows' labels agree. -/
theorem same_eq (i : S8192x8192.Idx) : val_main_v19 (F := Ideal) x1 i = BitVec.ofBool (decide (lab (i 0).val = lab (i 1).val)) := by
  rw [val_main_v19_apply, val_main_v17_apply, val_main_v18_apply, val_main_v15_apply, val_main_v16_apply, hl, hl]
  exact WordCmp.cmpi_eq_eq _ _

theorem not_ofBool (p : Bool) : ~~~(BitVec.ofBool p) = BitVec.ofBool (!p) := by cases p <;> decide

theorem select_bool {α : Type} (p : Prop) [Decidable p] (a b : α) : Scalar.select (BitVec.ofBool (decide p)) a b = if p then a else b := by
  by_cases h : p
  · rw [if_pos h, decide_eq_true h]; rfl
  · rw [if_neg h, decide_eq_false h]; rfl

include hx hl in
/-- A pair's weight. -/
theorem weight_eq (i : S8192x8192.Idx) : val_main_v24 (F := Ideal) x0 x1 i = ((ex x lab (i 0).val (i 1).val : ℝ) : EReal) := by
  have he : val_main_v23 (F := Ideal) x0 i = ((Real.exp (mu - LossMath.dist x (i 0).val (i 1).val) : ℝ) : EReal) := by
    have h : val_main_v22 (F := Ideal) x0 i = ((mu - LossMath.dist x (i 0).val (i 1).val : ℝ) : EReal) := by
      rw [val_main_v22_apply, val_main_v21_apply, dist_eq x0 x hx, EReal.coe_sub, ← mu_f32]
      rfl
    rw [val_main_v23_apply, h]
    rfl
  rw [val_main_v24_apply, val_main_v20_apply, same_eq x1 lab hl, not_ofBool, ← decide_not, select_bool, he, val_main_call0_v1_apply, val_main_call0_v0_apply,
    show val_main_cst_3 (F := Ideal) (idx_main_call0_v1 i) = ((0 : ℝ) : EReal) from zero_f32]
  unfold ex
  by_cases h : lab (i 0).val = lab (i 1).val
  · rw [if_neg (not_not.2 h), if_pos h]
  · rw [if_pos h, if_neg h]

include hx hl in
/-- A row's sum of weights. -/
theorem sum_eq (i : S8192.Idx) : val_main_v25 (F := Ideal) x0 x1 i = ((S x lab (i 0).val : ℝ) : EReal) := by
  rw [val_main_v25_apply, show val_main_cst_4 (F := Ideal) (Shape.Idx.first h_S_) = ((0 : ℝ) : EReal) from zero_f32, EReal.coe_zero, zero_add]
  unfold S
  rw [Finset.sum_range, ← sum_coe]
  exact Finset.sum_congr rfl fun (k : Fin 8192) _ => weight_eq x0 x1 x lab hx hl (idx_main_v25 i k)

include hx hl in
/-- A pair's term. -/
theorem term_eq (i : S8192x8192.Idx) : val_main_v35 (F := Ideal) x0 x1 i = ((J x lab (i 0).val (i 1).val : ℝ) : EReal) := by
  have hs : val_main_v30 (F := Ideal) x0 x1 i = ((S x lab (i 0).val + S x lab (i 1).val : ℝ) : EReal) := by
    rw [val_main_v30_apply, val_main_v28_apply, val_main_v29_apply, val_main_v26_apply, val_main_v27_apply, sum_eq x0 x1 x lab hx hl, sum_eq x0 x1 x lab hx hl, EReal.coe_add]
    rfl
  have ht : val_main_v34 (F := Ideal) x0 x1 i = ((if S x lab (i 0).val + S x lab (i 1).val ≤ 0 then 0
      else max (Real.log (S x lab (i 0).val + S x lab (i 1).val) + LossMath.dist x (i 0).val (i 1).val) 0 : ℝ) : EReal) := by
    rw [val_main_v34_apply, val_main_v32_apply, val_main_v31_apply, val_main_v33_apply, hs, dist_eq x0 x hx, ← max_log, ← zero_f32]
    rfl
  rw [val_main_v35_apply, same_eq x1 lab hl, select_bool, ht, val_main_call1_v1_apply, val_main_call1_v0_apply,
    show val_main_cst_6 (F := Ideal) (idx_main_call1_v1 i) = ((0 : ℝ) : EReal) from zero_f32]
  unfold J
  split <;> rfl

/-- A sum over the pairs of rows. -/
theorem sum_pairs {M : Type} [AddCommMonoid M] (g : ℕ → ℕ → M) : ∑ i : S8192x8192.Idx, g (i 0).val (i 1).val = ∑ a ∈ range 8192, ∑ b ∈ range 8192, g a b := by
  rw [sum_idx2, Finset.sum_range]
  refine Finset.sum_congr rfl fun a _ => ?_
  rw [Finset.sum_range]

include hl in
/-- The number of pairs of one class. -/
theorem count_eq (i : S_.Idx) : val_main_v38 (F := Ideal) x1 i = ((npos lab : ℝ) : EReal) := by
  have hsub : Subsingleton S_.Idx := ⟨fun a b => funext fun k => k.elim0⟩
  have hn : val_main_v37 (F := Ideal) x1 i = BitVec.ofNat 32 (∑ a ∈ range 8192, ∑ b ∈ range 8192, if lab a = lab b then 1 else 0) := by
    rw [← sum_pairs (fun a b => if lab a = lab b then 1 else 0)]
    refine reduce_count (val_main_v36 (F := Ideal) x1) (fun i => if lab (i 0).val = lab (i 1).val then 1 else 0) (fun i => ?_) _ _ _ rfl i
    rw [val_main_v36_apply, same_eq x1 lab hl]
    by_cases h : lab (i 0).val = lab (i 1).val
    · rw [if_pos h, decide_eq_true h]; rfl
    · rw [if_neg h, decide_eq_false h]; rfl
  have hle : (∑ a ∈ range 8192, ∑ b ∈ range 8192, if lab a = lab b then 1 else 0) ≤ 8192 * 8192 := by
    refine (Finset.sum_le_card_nsmul _ _ 8192 fun a _ => ?_).trans (by rw [Finset.card_range, smul_eq_mul])
    refine (Finset.sum_le_card_nsmul _ _ 1 fun b _ => by split <;> omega).trans (by rw [Finset.card_range, smul_eq_mul])
  rw [val_main_v38_apply, hn]
  show (((BitVec.ofNat 32 _).toInt : ℝ) : EReal) = _
  rw [WordCmp.toInt_ofNat_of_lt (by omega)]
  unfold npos
  push_cast
  rfl

include hx hl in
/-- The reference's result. -/
theorem result_eq (i : S_.Idx) : val_main_v42 (F := Ideal) x0 x1 i = ((loss x lab : ℝ) : EReal) := by
  have ht : val_main_v40 (F := Ideal) x0 x1 i = ((∑ a ∈ range 8192, ∑ b ∈ range 8192, J x lab a b * J x lab a b : ℝ) : EReal) := by
    rw [val_main_v40_apply, show val_main_cst_7 (F := Ideal) (Shape.Idx.first h_S_) = ((0 : ℝ) : EReal) from zero_f32, EReal.coe_zero, zero_add,
      ← sum_pairs (fun a b => J x lab a b * J x lab a b), ← sum_coe]
    refine Finset.sum_congr rfl fun i _ => ?_
    rw [val_main_v39_apply, term_eq x0 x1 x lab hx hl, EReal.coe_mul]
    rfl
  have hc : val_main_v41 (F := Ideal) x1 i = ((2 * npos lab : ℝ) : EReal) := by
    rw [val_main_v41_apply, count_eq x1 lab hl, EReal.coe_mul, ← two_f32]
    rfl
  have hne : 2 * npos lab ≠ 0 := mul_ne_zero two_ne_zero (npos_pos lab).ne'
  rw [val_main_v42_apply, ht, hc]
  refine (Ideal.div_coe hne _).trans ?_
  rw [← EReal.coe_mul, mul_one_div]
  rfl

end Cert.RefValue
-- ==== Proof.Payloads.lean ====
module

public import proofs.«01_k».proof.Proof.Scalars
public import proofs.«01_k».proof.Proof.Gen.KernelIdeal.Skeleton
public import Idealize.ShloMosaic.Lib.MatmulPlain
public import Idealize.ShloMosaic.Lib.WordCmp
public import Idealize.ShloMosaic.Lib.ValueIdx
public import Idealize.ShloMosaic.Lib.ValueLayout
public import Idealize.ShloMosaic.Lib.Pipeline.Value

@[expose] public section

noncomputable section

namespace Cert.Payloads

open Idealize.ShloMosaic Idealize.ShloMosaic.ValueIdx Idealize.ShloMosaic.WordCmp
open Cert.KernelIdeal Cert.KernelIdeal.Gen Cert.LossMath Cert.Scalars
open scoped BigOperators

/-! # The value of each step's arithmetic on blocks of finite numbers -/

/-- A column broadcast along rows reads, at `(p, c)`, the column at `p`. -/
theorem colBroadcast {α : Type} {a b : ℕ} (ha : a ≠ 1) (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ => exact (if_neg ha).symm
  | ⟨1, _⟩ => rfl

/-- A row of sums stored as a rank-three block reads, at `(0, 0, c)`, the row at `c`. -/
theorem cast_row {α : Type} {n : ℕ} (v : (⟨1, ![n]⟩ : Shape).Idx → α) (h : (⟨1, ![n]⟩ : Shape).ShapeCasts ⟨2, ![1, n]⟩)
    (h' : (⟨2, ![1, n]⟩ : Shape).ShapeCasts ⟨3, ![1, 1, n]⟩) (c : Fin n) :
    shapeCast ⟨3, ![1, 1, n]⟩ (shapeCast ⟨2, ![1, n]⟩ v h) h' (ix3 (0 : Fin 1) (0 : Fin 1) c) = v (ix1 c) := by
  rw [shapeCast_apply _ _ _ (ix2 (0 : Fin 1) c), shapeCast_apply _ _ _ (ix1 c)]
  · rw [Shape.rowMajor_val_one, Shape.rowMajor_val_two]; show c.val = 0 * n + c.val; omega
  · rw [Shape.rowMajor_val_two, Shape.rowMajor_val_three]; show 0 * n + c.val = (0 * 1 + 0) * n + c.val; omega

theorem cast_row2 {α : Type} {n : ℕ} (v : (⟨2, ![1, n]⟩ : Shape).Idx → α)
    (h' : (⟨2, ![1, n]⟩ : Shape).ShapeCasts ⟨3, ![1, 1, n]⟩) (c : Fin n) :
    shapeCast ⟨3, ![1, 1, n]⟩ v h' (ix3 (0 : Fin 1) (0 : Fin 1) c) = v (ix2 (0 : Fin 1) c) := by
  rw [shapeCast_apply _ _ _ (ix2 (0 : Fin 1) c)]
  rw [Shape.rowMajor_val_two, Shape.rowMajor_val_three]; show 0 * n + c.val = (0 * 1 + 0) * n + c.val; omega

/-! ## The squared norms -/

/-- A row of ones times a matrix of finite numbers sums each row. -/
theorem ones_matmul {M K : ℕ} {φ : FTy} (one : FVec Ideal ⟨2, ![1, K]⟩ .bf16) (x : FVec Ideal ⟨2, ![M, K]⟩ φ) (z : FVec Ideal ⟨2, ![1, M]⟩ .f32)
    (f : Fin M → Fin K → ℝ) (h1 : ∀ i, one i = ((1 : ℝ) : EReal)) (hz : ∀ i, z i = ((0 : ℝ) : EReal)) (hx : ∀ r k, x (ix2 r k) = ((f r k : ℝ) : EReal)) (r : Fin M) :
    FloatOps.matmul (DotDims.transposedRhs 1 K M) none one x z (ix2 (0 : Fin 1) r) = ((∑ k, f r k : ℝ) : EReal) := by
  rw [Ideal.matmul_transposedRhs_apply, hz, ← sum_coe]
  simp only [h1, hx, EReal.coe_one, one_mul, EReal.coe_zero, zero_add]

theorem pay2_value (x : FVec Ideal S2048x512 .f32) (f : Fin 2048 → Fin 512 → ℝ) (hx : ∀ r k, x (ix2 r k) = ((f r k : ℝ) : EReal)) (r : Fin 2048) :
    k0_pay2 (F := Ideal) x (ix3 (0 : Fin 1) (0 : Fin 1) r) = ((∑ k, f r k * f r k : ℝ) : EReal) := by
  unfold k0_pay2
  refine (cast_row2 _ _ r).trans ?_
  rw [addf_apply]
  refine (congrArg₂ (· + ·) (ones_matmul _ _ _ (fun r k => f r k * f r k) ?_ ?_ ?_ r) (ones_matmul _ _ _ (fun _ _ => 0) ?_ ?_ ?_ r)).trans ?_
  · intro i; exact one_bf16
  · intro i; exact zero_f32
  · intro r k
    show x (ix2 r k) * x (ix2 r k) = _
    rw [hx, ← EReal.coe_mul]
  · intro i; exact one_bf16
  · intro i; exact zero_f32
  · intro r k
    show x (ix2 r k) * x (ix2 r k) - x (ix2 r k) * x (ix2 r k) = _
    rw [hx, ← EReal.coe_mul, ← EReal.coe_sub, sub_self]
  · rw [← EReal.coe_add]; simp

theorem pay3_value (x : FVec Ideal S2048x512 .bf16) (f : Fin 2048 → Fin 512 → ℝ) (hx : ∀ r k, x (ix2 r k) = ((f r k : ℝ) : EReal)) (r : Fin 2048) :
    k0_pay3 (F := Ideal) x (ix3 (0 : Fin 1) (0 : Fin 1) r) = ((∑ k, f r k * f r k : ℝ) : EReal) := by
  refine Eq.trans ?_ (pay2_value x f hx r)
  unfold k0_pay3 k0_pay2
  rw [shapeCast_self]
  rfl

/-! ## The class counts -/

theorem counts_value (x : IVec S2048x1 32) (lb : Fin 2048 → BitVec 32) (hx : ∀ r, x (ix2 r (0 : Fin 1)) = lb r) (k : Fin 128) :
    k0_pay1 (F := Ideal) (k0_pay4 (F := Ideal) x) (ix3 (0 : Fin 1) (0 : Fin 1) k) = ((∑ r, if lb r = BitVec.ofNat 32 k.val then 1 else 0 : ℝ) : EReal) := by
  unfold k0_pay1 k0_pay4
  refine (cast_row _ _ _ k).trans ?_
  refine (Ideal.multiReduction_add_single _ _ _ _ _ _).trans ?_
  rw [← sum_coe]
  refine Finset.sum_congr rfl fun (r : Fin 2048) _ => ?_
  have hl : reduces_S2048x128_S128.lift (ix1 k) r = ix2 r k := by
    funext a; match a with | ⟨0, _⟩ => rfl | ⟨1, _⟩ => rfl
  rw [hl, select_apply, shapeCast_self]
  refine Eq.trans (congrArg (fun c => Scalar.select c _ _) (?_ : _ = BitVec.ofBool (decide (lb r = BitVec.ofNat 32 k.val)))) ?_
  · show IntOp.cmpi .eq (broadcastTo S2048x128 x _ (ix2 r k)) (broadcastTo S2048x128 _ _ (ix2 r k)) = _
    rw [cmpi_eq_eq]
    congr 2
    refine congrArg₂ (· = ·) ((colBroadcast (by decide) x _ r k).trans (hx r)) ((broadcastTo_1b_ab_apply _ _ r k).trans ?_)
    show BitVec.ofNat 32 (List.foldl _ 0 [1]) = _
    simp only [List.foldl_cons, List.foldl_nil, Nat.zero_mul, Nat.zero_add]
  · rw [select_decide]
    split
    · exact one_f32
    · exact zero_f32

/-! ## The distances of one tile -/

theorem dist_value (x1 : FVec Ideal S1024x512 .bf16) (x0 : FVec Ideal S512x1024 .bf16) (x5 : FVec Ideal S1024x1 .f32) (x4 : FVec Ideal S1x1024 .f32)
    (f : Fin 1024 → Fin 512 → ℝ) (g : Fin 512 → Fin 1024 → ℝ) (u v : Fin 1024 → ℝ)
    (h1 : ∀ r k, x1 (ix2 r k) = ((f r k : ℝ) : EReal)) (h0 : ∀ k c, x0 (ix2 k c) = ((g k c : ℝ) : EReal))
    (h5 : ∀ r, x5 (ix2 r (0 : Fin 1)) = ((u r : ℝ) : EReal)) (h4 : ∀ c, x4 (ix2 (0 : Fin 1) c) = ((v c : ℝ) : EReal)) (r c : Fin 1024) :
    k2_pay1 (F := Ideal) x1 x0 x5 x4 (ix2 r c) = ((√(max (u r + v c + ∑ k, f r k * g k c) eps) : ℝ) : EReal) := by
  unfold k2_pay1
  rw [mulf_apply, shapeCast_self, shapeCast_self, shapeCast_self, shapeCast_self]
  refine Eq.trans ?_ (mul_rsqrt (lt_of_lt_of_le eps_pos (le_max_right _ _)))
  refine congrArg (fun m : EReal => m * Ideal.rsqrt m) ?_
  rw [maximumf_apply, addf_apply, addf_apply, ← max_coe, EReal.coe_add, EReal.coe_add]
  refine congrArg₂ max (congrArg₂ (· + ·) (congrArg₂ (· + ·) ((colBroadcast (by decide) x5 _ r c).trans (h5 r)) ((broadcastTo_1b_ab_apply x4 _ r c).trans (h4 c))) ?_) eps_f32
  refine (Ideal.matmul_plain_apply none x1 x0 _ r c).trans ?_
  rw [← sum_coe]
  refine Eq.trans (congrArg (· + _) (zero_f32 : _ = _)) ?_
  rw [EReal.coe_zero, zero_add]
  exact Finset.sum_congr rfl fun k _ => by rw [h1, h0, EReal.coe_mul]

/-- Whether a pair lies below the diagonal, as the step tests it. -/
theorem below_word (i j : ℕ) (hi : i < 8) (hj : j < 8) (r c : Fin 1024) :
    IntOp.cmpi .sgt (IntOp.addi (IntOp.muli (BitVec.ofNat 32 j) 1024#32) (BitVec.ofNat 32 r.val)) (IntOp.addi (IntOp.muli (BitVec.ofNat 32 i) 1024#32) (BitVec.ofNat 32 c.val))
      = BitVec.ofBool (decide (i * 1024 + c.val < j * 1024 + r.val)) := by
  have hr := r.isLt
  have hc := c.isLt
  rw [show (1024#32 : BitVec 32) = BitVec.ofNat 32 1024 from rfl, muli_ofNat, muli_ofNat, addi_ofNat, addi_ofNat]
  exact cmpi_sgt_ofNat (by omega) (by omega)

/-- The mask of the pairs below the diagonal, read in the tile. -/
theorem below_mask (i j : ℕ) (hi : i < 8) (hj : j < 8) (r c : Fin 1024) :
    cmpi .sgt (broadcastTo S1024x1024 (addi (broadcast S1024x1 (Scalar.muli (BitVec.ofNat 32 j) 1024#32)) (iota .tc S1024x1 32 [0] iota_S1024x1_d0_w32)) broadcasts_S1024x1_S1024x1024)
        (broadcastTo S1024x1024 (addi (broadcast S1x1024 (Scalar.muli (BitVec.ofNat 32 i) 1024#32)) (iota .tc S1x1024 32 [1] iota_S1x1024_d1_w32)) broadcasts_S1x1024_S1024x1024) (ix2 r c)
      = BitVec.ofBool (decide (i * 1024 + c.val < j * 1024 + r.val)) := by
  refine Eq.trans ?_ (below_word i j hi hj r c)
  refine congrArg₂ (IntOp.cmpi .sgt) ((colBroadcast (by decide) _ _ r c).trans ?_) ((broadcastTo_1b_ab_apply _ _ r c).trans ?_)
  · refine congrArg (IntOp.addi _) ?_
    show BitVec.ofNat 32 (List.foldl _ 0 [0]) = _
    simp [List.foldl_cons]
  · refine congrArg (IntOp.addi _) ?_
    show BitVec.ofNat 32 (List.foldl _ 0 [1]) = _
    simp [List.foldl_cons]

/-- Whether two classes differ, read in the tile. -/
theorem differ_mask (x3 : IVec S1024x1 32) (x2 : IVec S1x1024 32) (r c : Fin 1024) :
    k1_pay3 (F := Ideal) x3 x2 (ix2 r c) = BitVec.ofBool (decide (x3 (ix2 r (0 : Fin 1)) ≠ x2 (ix2 (0 : Fin 1) c))) := by
  unfold k1_pay3
  rw [shapeCast_self, shapeCast_self]
  refine Eq.trans (congrArg₂ (IntOp.cmpi .ne) (colBroadcast (by decide) x3 _ r c) (broadcastTo_1b_ab_apply x2 _ r c)) (cmpi_ne_eq _ _)

/-- Whether two classes agree, read in the tile. -/
theorem agree_mask (x3 : IVec S1024x1 32) (x2 : IVec S1x1024 32) (r c : Fin 1024) :
    k2_pay2 (F := Ideal) x3 x2 (ix2 r c) = BitVec.ofBool (decide (x3 (ix2 r (0 : Fin 1)) = x2 (ix2 (0 : Fin 1) c))) := by
  unfold k2_pay2
  rw [shapeCast_self, shapeCast_self]
  refine Eq.trans (congrArg₂ (IntOp.cmpi .eq) (colBroadcast (by decide) x3 _ r c) (broadcastTo_1b_ab_apply x2 _ r c)) (cmpi_eq_eq _ _)

/-- The weight of a pair of the tile. -/
def wt (d : ℝ) (a b : BitVec 32) : ℝ := if a = b then 0 else Real.exp (mu - d)

theorem weight_value (i j : ℕ) (hi : i < 8) (hj : j < 8) (x1 : FVec Ideal S1024x512 .bf16) (x0 : FVec Ideal S512x1024 .bf16) (x5 : FVec Ideal S1024x1 .f32) (x4 : FVec Ideal S1x1024 .f32)
    (x3 : IVec S1024x1 32) (x2 : IVec S1x1024 32) (d : Fin 1024 → Fin 1024 → ℝ) (hd : ∀ r c, k2_pay1 (F := Ideal) x1 x0 x5 x4 (ix2 r c) = ((d r c : ℝ) : EReal)) (r c : Fin 1024) :
    k1_pay5 (F := Ideal) (BitVec.ofNat 32 i) (BitVec.ofNat 32 j) (k1_pay3 (F := Ideal) x3 x2) (k1_pay4 (F := Ideal) x1 x0 x5 x4) (Named.named κ "margin_log2e" 0x3F13BB63#32) (ix2 r c)
      = ((if i * 1024 + c.val < j * 1024 + r.val then wt (d r c) (x3 (ix2 r (0 : Fin 1))) (x2 (ix2 (0 : Fin 1) c)) else 0 : ℝ) : EReal) := by
  unfold k1_pay5
  rw [select_apply, below_mask i j hi hj r c, select_decide]
  split
  · rw [select_apply, differ_mask, select_decide]
    unfold wt
    by_cases h : x3 (ix2 r (0 : Fin 1)) = x2 (ix2 (0 : Fin 1) c)
    · rw [if_neg (not_not.2 h), if_pos h]; exact zero_f32
    · rw [if_pos h, if_neg h]
      refine Eq.trans (congrArg Ideal.exp2 ?_) (exp2_scaled (d r c))
      refine congrArg₂ (fun a b : EReal => a - b) margin_named ?_
      show _ * k2_pay1 (F := Ideal) x1 x0 x5 x4 (ix2 r c) = _
      rw [hd]
      exact congrArg (· * _) log2e_named
  · exact zero_f32

section Sums

variable (i j : ℕ) (hi : i < 8) (hj : j < 8) (x1 : FVec Ideal S1024x512 .bf16) (x0 : FVec Ideal S512x1024 .bf16) (x5 : FVec Ideal S1024x1 .f32) (x4 : FVec Ideal S1x1024 .f32)
  (x3 : IVec S1024x1 32) (x2 : IVec S1x1024 32) (d : Fin 1024 → Fin 1024 → ℝ) (hd : ∀ r c, k2_pay1 (F := Ideal) x1 x0 x5 x4 (ix2 r c) = ((d r c : ℝ) : EReal))

theorem lift_rows (r c : Fin 1024) : reduces_S1024x1024_S1024.lift (ix1 c) r = ix2 r c := by
  funext a; match a with | ⟨0, _⟩ => rfl | ⟨1, _⟩ => rfl

include hi hj hd in
theorem rowSums_value (c : Fin 1024) :
    k1_pay6 (F := Ideal) (BitVec.ofNat 32 i) (BitVec.ofNat 32 j) (k1_pay3 (F := Ideal) x3 x2) (k1_pay4 (F := Ideal) x1 x0 x5 x4) (Named.named κ "margin_log2e" 0x3F13BB63#32) (ix3 (0 : Fin 1) (0 : Fin 1) c)
      = ((∑ r : Fin 1024, if i * 1024 + c.val < j * 1024 + r.val then wt (d r c) (x3 (ix2 r (0 : Fin 1))) (x2 (ix2 (0 : Fin 1) c)) else 0 : ℝ) : EReal) := by
  unfold k1_pay6
  refine (cast_row _ _ _ c).trans ?_
  refine (Ideal.multiReduction_add_single _ _ _ _ _ _).trans ?_
  rw [← sum_coe]
  refine Finset.sum_congr rfl fun (r : Fin 1024) _ => ?_
  rw [lift_rows r c]
  exact weight_value i j hi hj x1 x0 x5 x4 x3 x2 d hd r c

include hi hj hd in
theorem colSums_value (r : Fin 1024) :
    k1_pay7 (F := Ideal) (BitVec.ofNat 32 i) (BitVec.ofNat 32 j) (k1_pay3 (F := Ideal) x3 x2) (k1_pay4 (F := Ideal) x1 x0 x5 x4) (Named.named κ "margin_log2e" 0x3F13BB63#32) (ix3 (0 : Fin 1) (0 : Fin 1) r)
      = ((∑ c : Fin 1024, if i * 1024 + c.val < j * 1024 + r.val then wt (d r c) (x3 (ix2 r (0 : Fin 1))) (x2 (ix2 (0 : Fin 1) c)) else 0 : ℝ) : EReal) := by
  unfold k1_pay7
  refine (cast_row2 _ _ r).trans ?_
  refine ones_matmul _ _ _ (fun r c => if i * 1024 + c.val < j * 1024 + r.val then wt (d r c) (x3 (ix2 r (0 : Fin 1))) (x2 (ix2 (0 : Fin 1) c)) else 0) (fun _ => one_bf16) (fun _ => zero_f32) ?_ r
  intro r c
  exact weight_value i j hi hj x1 x0 x5 x4 x3 x2 d hd r c

/-- A pair's term before it is squared, from its two rows' sums and its distance. -/
def tm (s d : ℝ) : ℝ := if s ≤ 0 then 0 else max (Real.log s + d) 0

include hi hj hd in
theorem terms_value (x8 : FVec Ideal S1024x1 .f32) (x7 : FVec Ideal S1x1024 .f32) (p q : Fin 1024 → ℝ)
    (h8 : ∀ r, x8 (ix2 r (0 : Fin 1)) = ((p r : ℝ) : EReal)) (h7 : ∀ c, x7 (ix2 (0 : Fin 1) c) = ((q c : ℝ) : EReal)) (c : Fin 1024) :
    k2_pay4 (F := Ideal) (BitVec.ofNat 32 i) (BitVec.ofNat 32 j) (k2_pay1 x1 x0 x5 x4) (k2_pay2 (F := Ideal) x3 x2) (k2_pay3 x8) x7 (ix3 (0 : Fin 1) (0 : Fin 1) c)
      = ((∑ r : Fin 1024, if i * 1024 + c.val < j * 1024 + r.val then
          (if x3 (ix2 r (0 : Fin 1)) = x2 (ix2 (0 : Fin 1) c) then tm (p r + q c) (d r c) else 0) * (if x3 (ix2 r (0 : Fin 1)) = x2 (ix2 (0 : Fin 1) c) then tm (p r + q c) (d r c) else 0) else 0 : ℝ) : EReal) := by
  unfold k2_pay4
  refine (cast_row _ _ _ c).trans ?_
  refine (Ideal.multiReduction_add_single _ _ _ _ _ _).trans ?_
  rw [← sum_coe]
  refine Finset.sum_congr rfl fun (r : Fin 1024) _ => ?_
  rw [lift_rows r c, mulf_apply, select_apply, below_mask i j hi hj r c, select_decide]
  split
  · rw [select_apply, agree_mask, select_decide, EReal.coe_mul]
    have key : (if x3 (ix2 r (0 : Fin 1)) = x2 (ix2 (0 : Fin 1) c) then
        maximumf (addf (log (addf (broadcastTo S1024x1024 (k2_pay3 x8) broadcasts_S1024x1_S1024x1024) (broadcastTo S1024x1024 (shapeCast S1x1024 x7 shapeCasts_S1x1024_S1x1024) broadcasts_S1x1024_S1024x1024))) (k2_pay1 x1 x0 x5 x4)) (broadcast S1024x1024 (Scalar.ofBits .f32 0x00000000#32)) (ix2 r c)
        else broadcast S1024x1024 (Scalar.ofBits .f32 0x00000000#32) (ix2 r c))
        = ((if x3 (ix2 r (0 : Fin 1)) = x2 (ix2 (0 : Fin 1) c) then tm (p r + q c) (d r c) else 0 : ℝ) : EReal) := by
      split
      · unfold tm
        rw [← max_log, ← hd]
        refine congrArg₂ max (congrArg (Ideal.log · + _) ?_) zero_f32
        rw [EReal.coe_add, ← h8, ← h7]
        unfold k2_pay3
        rw [shapeCast_self, shapeCast_self]
        exact congrArg₂ (· + ·) (colBroadcast (by decide) x8 _ r c) (broadcastTo_1b_ab_apply x7 _ r c)
      · exact zero_f32
    exact congrArg₂ (· * ·) key key
  · refine (congrArg₂ (· * ·) zero_f32 zero_f32).trans ?_
    rw [← EReal.coe_mul, mul_zero]

/-- The diagonal's half terms. -/
theorem diag_value (x4 x6 x7 : FVec Ideal S1x1024 .f32) (v q : Fin 1024 → ℝ)
    (h4 : ∀ c, x4 (ix2 (0 : Fin 1) c) = ((v c : ℝ) : EReal)) (h6 : ∀ c, x6 (ix2 (0 : Fin 1) c) = ((v c : ℝ) : EReal)) (h7 : ∀ c, x7 (ix2 (0 : Fin 1) c) = ((q c : ℝ) : EReal))
    (a b : BitVec 32) (m : FVec Ideal S1024x1024 .f32) (e : IVec S1024x1024 1) (p : FVec Ideal S1024x1 .f32) (y : FVec Ideal S1x1024 .f32) (w : ℝ) (c : Fin 1024)
    (hw : k2_pay4 (F := Ideal) a b m e p y (ix3 (0 : Fin 1) (0 : Fin 1) c) = ((w : ℝ) : EReal)) :
    k2_pay5 (F := Ideal) a b m e p y x4 x6 x7 (ix3 (0 : Fin 1) (0 : Fin 1) c) = ((w + 1 / 2 * tm (q c + q c) (√eps) * tm (q c + q c) (√eps) : ℝ) : EReal) := by
  unfold k2_pay5
  rw [addf_apply, hw, EReal.coe_add]
  refine congrArg (_ + ·) ?_
  refine (cast_row2 _ _ c).trans ?_
  rw [shapeCast_self, shapeCast_self, shapeCast_self]
  have root : mulf (maximumf (subf (mulf (broadcast S1x1024 (Scalar.ofBits .f32 0x40000000#32)) x4) (mulf (broadcast S1x1024 (Scalar.ofBits .f32 0x40000000#32)) x6)) (broadcast S1x1024 (Scalar.ofBits .f32 0x2B8CBCCC#32)))
      (rsqrt (maximumf (subf (mulf (broadcast S1x1024 (Scalar.ofBits .f32 0x40000000#32)) x4) (mulf (broadcast S1x1024 (Scalar.ofBits .f32 0x40000000#32)) x6)) (broadcast S1x1024 (Scalar.ofBits .f32 0x2B8CBCCC#32)))) (ix2 (0 : Fin 1) c)
      = ((√eps : ℝ) : EReal) := by
    refine Eq.trans (congrArg (fun m : EReal => m * Ideal.rsqrt m) ?_) (mul_rsqrt eps_pos)
    show max (Ideal.ofBits .f32 0x40000000#32 * x4 (ix2 (0 : Fin 1) c) - Ideal.ofBits .f32 0x40000000#32 * x6 (ix2 (0 : Fin 1) c)) (Ideal.ofBits .f32 0x2B8CBCCC#32) = _
    rw [two_f32, eps_f32, h4, h6, ← EReal.coe_mul, ← EReal.coe_sub, sub_self, max_coe, max_eq_right eps_pos.le]
  have term : max (Ideal.log (x7 (ix2 (0 : Fin 1) c) + x7 (ix2 (0 : Fin 1) c)) + ((√eps : ℝ) : EReal)) (Ideal.ofBits .f32 0x00000000#32) = ((tm (q c + q c) (√eps) : ℝ) : EReal) := by
    rw [zero_f32, h7, ← EReal.coe_add, max_log]; rfl
  rw [EReal.coe_mul, EReal.coe_mul, ← term, ← half_f32, ← root]
  rfl

end Sums

end Cert.Payloads
-- ==== Proof.Pairs.lean ====
module

public import proofs.«01_k».proof.Proof.LossMath

@[expose] public section

namespace Cert.Pairs

open Finset

/-! # The order in which the pairs of row blocks are visited

Step `n` of 36 visits the pair `(iN n, jN n)`; the pairs of one first block come consecutively, second block from the
first block's number up to 7. -/

/-- Step `n`'s first block. -/
def iN (n : ℕ) : ℕ := if n / 9 + n % 9 < 8 then n / 9 else 7 - n / 9
/-- Step `n`'s second block. -/
def jN (n : ℕ) : ℕ := if n / 9 + n % 9 < 8 then n / 9 + n % 9 else n % 9 - 1

theorem iN_lt : ∀ n < 36, iN n < 8 := by decide
theorem jN_lt : ∀ n < 36, jN n < 8 := by decide
theorem next : ∀ n < 35, iN (n + 1) = jN (n + 1) ∨ (iN (n + 1) ≠ jN (n + 1) ∧ iN (n + 1) = iN n ∧ jN (n + 1) = jN n + 1 ∧ iN n ≤ jN n) := by decide
theorem iN_zero : iN 0 = 0 := by decide
theorem jN_zero : jN 0 = 0 := by decide

theorem maps : ∀ s < 8, ∀ n < 36, jN n = s → iN n < s + 1 := by decide
theorem inj : ∀ n < 36, ∀ m < 36, jN n = jN m → iN n = iN m → n = m := by decide
theorem surj : ∀ s < 8, ∀ i < s + 1, ∃ n < 36, jN n = s ∧ iN n = i := by decide

/-- Over all steps, the pairs of one second block run over the first blocks up to it. -/
theorem sum_steps (s : ℕ) (hs : s < 8) (f : ℕ → ℝ) : ∑ n ∈ range 36, (if jN n = s then f (iN n) else 0) = ∑ i ∈ range (s + 1), f i := by
  rw [← sum_filter]
  refine sum_nbij iN ?_ ?_ ?_ fun _ _ => rfl
  · intro n hn
    rw [mem_filter, mem_range] at hn
    exact mem_range.2 (maps s hs n hn.1 hn.2)
  · intro n hn m hm h
    rw [mem_coe, mem_filter, mem_range] at hn hm
    exact inj n hn.1 m hm.1 (hn.2.trans hm.2.symm) h
  · intro i hi
    rw [mem_coe, mem_range] at hi
    obtain ⟨n, hn, hj, he⟩ := surj s hs i hi
    exact ⟨n, by rw [mem_coe, mem_filter, mem_range]; exact ⟨hn, hj⟩, he⟩

end Cert.Pairs
-- ==== Proof.Values0.lean ====
module

public import proofs.«01_k».proof.Proof.Payloads
public import proofs.«01_k».proof.Proof.Pairs
public import proofs.«01_k».proof.Proof.IdealRegion0

@[expose] public section

noncomputable section

namespace Cert.KernelIdeal.Blocks

open Idealize.ShloMosaic Idealize.ShloMosaic.TcCoe Idealize.ShloMosaic.ValueIdx
open Idealize.ShloMosaic.Pipeline (Dat Cfg Window)
open Cert.KernelIdeal.Gen Cert.Payloads Cert.LossMath

/-! # The first call's arrays -/

variable (W : Dev nD → Valuation τ sig (Elt Ideal)) (c : Dev nD)

theorem index0_0 : ∀ t : Fin grid0.N, win0_0.index t 0 = t.val ∧ win0_0.index t 1 = 0 := by decide +kernel
theorem index0_1 : ∀ t : Fin grid0.N, win0_1.index t 0 = t.val ∧ win0_1.index t 1 = 0 := by decide +kernel
theorem index0_2 : ∀ t : Fin grid0.N, win0_2.index t 0 = t.val ∧ win0_2.index t 1 = 0 := by decide +kernel
theorem index0_3 : ∀ t : Fin grid0.N, win0_3.index t 0 = t.val ∧ win0_3.index t 1 = 0 ∧ win0_3.index t 2 = 0 := by decide +kernel
theorem index0_4 : ∀ t : Fin grid0.N, win0_4.index t 0 = t.val ∧ win0_4.index t 1 = 0 ∧ win0_4.index t 2 = 0 := by decide +kernel
theorem index0_5 : ∀ t : Fin grid0.N, win0_5.index t 0 = t.val ∧ win0_5.index t 1 = 0 ∧ win0_5.index t 2 = 0 := by decide +kernel

theorem N0 : cfg0.N = 4 := by decide +kernel
theorem lt4 (t : Fin cfg0.N) : t.val < 4 := lt_of_lt_of_eq t.isLt N0

/-- The row of the array that row `r` of block `n` is. -/
def row2048 (n : ℕ) (hn : n < 4) (r : Fin 2048) : Fin 8192 := ⟨n * 2048 + r.val, by omega⟩

theorem read0_0 (t : Fin cfg0.N) (r : Fin 2048) (k : Fin 512) :
    blk0 W c 0 t (ix2 r k) = (W c (Proc.devRef .tc main_arg0) : S8192x512.Idx → EReal) (ix2 (row2048 t.val (lt4 t) r) k) := by
  refine congrArg (W c (Proc.devRef .tc main_arg0)) (funext fun a => Fin.ext ?_)
  match a with
  | ⟨0, _⟩ => exact (Window.rect_emb_val win0_0 t (ix2 r k) 0).trans (by rw [(index0_0 t).1]; rfl)
  | ⟨1, _⟩ => exact (Window.rect_emb_val win0_0 t (ix2 r k) 1).trans (by rw [(index0_0 t).2]; exact (Nat.zero_mul _).symm ▸ Nat.zero_add _)

theorem read0_1 (t : Fin cfg0.N) (r : Fin 2048) (k : Fin 512) :
    blk0 W c 1 t (ix2 r k) = (W c (Proc.devRef .tc main_call0_v2) : S8192x512.Idx → EReal) (ix2 (row2048 t.val (lt4 t) r) k) := by
  refine congrArg (W c (Proc.devRef .tc main_call0_v2)) (funext fun a => Fin.ext ?_)
  match a with
  | ⟨0, _⟩ => exact (Window.rect_emb_val win0_1 t (ix2 r k) 0).trans (by rw [(index0_1 t).1]; rfl)
  | ⟨1, _⟩ => exact (Window.rect_emb_val win0_1 t (ix2 r k) 1).trans (by rw [(index0_1 t).2]; exact (Nat.zero_mul _).symm ▸ Nat.zero_add _)

theorem read0_2 (t : Fin cfg0.N) (r : Fin 2048) :
    blk0 W c 2 t (ix2 r (0 : Fin 1)) = (W c (Proc.devRef .tc main_call0_v1) : S8192x1.Idx → BitVec 32) (ix2 (row2048 t.val (lt4 t) r) (0 : Fin 1)) := by
  refine congrArg (W c (Proc.devRef .tc main_call0_v1)) (funext fun a => Fin.ext ?_)
  match a with
  | ⟨0, _⟩ => exact (Window.rect_emb_val win0_2 t (ix2 r (0 : Fin 1)) 0).trans (by rw [(index0_2 t).1]; rfl)
  | ⟨1, _⟩ => exact (Window.rect_emb_val win0_2 t (ix2 r (0 : Fin 1)) 1).trans (by rw [(index0_2 t).2]; exact (Nat.zero_mul _).symm ▸ Nat.zero_add _)

variable (x : ℕ → ℕ → ℝ) (lab : ℕ → BitVec 32)

/-- Every index of a rank-three block with unit leading axes is `(0, 0, r)`. -/
theorem eq_row {n : ℕ} (y : (⟨3, ![1, 1, n]⟩ : Shape).Idx) : y = ix3 (0 : Fin 1) (0 : Fin 1) (y 2) := by
  funext a
  match a with
  | ⟨0, _⟩ => exact Subsingleton.elim (α := Fin 1) _ _
  | ⟨1, _⟩ => exact Subsingleton.elim (α := Fin 1) _ _
  | ⟨2, _⟩ => rfl

theorem emb0_3 (t : Fin cfg0.N) (y : (⟨3, ![1, 1, 2048]⟩ : Shape).Idx) :
    (((cfg0.win 3).blk t).view.emb y 0 : ℕ) = t.val ∧ (((cfg0.win 3).blk t).view.emb y 1 : ℕ) = 0 ∧ (((cfg0.win 3).blk t).view.emb y 2 : ℕ) = (y 2).val := by
  have h0 : (y 0).val < 1 := (y 0).isLt
  have h1 : (y 1).val < 1 := (y 1).isLt
  refine ⟨(Window.rect_emb_val win0_3 t y 0).trans ?_, (Window.rect_emb_val win0_3 t y 1).trans ?_, (Window.rect_emb_val win0_3 t y 2).trans ?_⟩
  · rw [(index0_3 t).1]; change t.val * 1 + (y 0).val = t.val; omega
  · rw [(index0_3 t).2.1]; change 0 * 1 + (y 1).val = 0; omega
  · rw [(index0_3 t).2.2]; change 0 * 2048 + (y 2).val = (y 2).val; omega

theorem mem0_3 (i : S4x1x2048.Idx) (t : Fin cfg0.N) (ht : t.val = (i 0).val) : i ∈ ((cfg0.win 3).blk t).view.set := by
  have h1 : (i 1).val < 1 := (i 1).isLt
  have e := emb0_3 t (ix3 (0 : Fin 1) (0 : Fin 1) (i 2))
  have h : i = ((cfg0.win 3).blk t).view.emb (ix3 (0 : Fin 1) (0 : Fin 1) (i 2)) := by
    funext a
    refine Fin.ext ?_
    match a with
    | ⟨0, _⟩ => exact (e.1.trans ht).symm
    | ⟨1, _⟩ => exact ((e.2.1.trans (by show 0 = (i 1).val; omega)) : _ = (i 1).val).symm
    | ⟨2, _⟩ => exact e.2.2.symm
  rw [h]
  exact View.emb_mem_set _ _

theorem cover0_3 (i : S4x1x2048.Idx) : ∃ t : Fin cfg0.N, (cfg0.win 3).flush t = true ∧ i ∈ ((cfg0.win 3).blk t).view.set := by
  have h0 : (i 0).val < 4 := (i 0).isLt
  have hN := N0
  exact ⟨⟨(i 0).val, by omega⟩, flush0_3 _, mem0_3 i _ rfl⟩

/-- The squared norms of the rows, block by block. -/
theorem norms0_3 (hx : ∀ (a : Fin 8192) (k : Fin 512), (W c (Proc.devRef .tc main_arg0) : S8192x512.Idx → EReal) (ix2 a k) = ((x a.val k.val : ℝ) : EReal))
    (i : S4x1x2048.Idx) : ((dat0 W c).arrAt 3 cfg0.N : S4x1x2048.Idx → EReal) i = ((sq x ((i 0).val * 2048 + (i 2).val) : ℝ) : EReal) := by
  refine (dat0 W c).arrAt_forall_of_cover 3 (fun (i : S4x1x2048.Idx) (v : EReal) => v = ((sq x ((i 0).val * 2048 + (i 2).val) : ℝ) : EReal)) ?_ cover0_3 i
  intro t _ y
  show k0_pay2 (F := Ideal) (blk0 W c 0 t) y = _
  have e := emb0_3 t y
  rw [e.1, e.2.2]
  refine (congrArg (k0_pay2 (F := Ideal) (blk0 W c 0 t)) (eq_row y)).trans ?_
  exact pay2_value _ (fun r k => x (t.val * 2048 + r.val) k.val) (fun r k => (read0_0 W c t r k).trans (hx _ _)) (y 2)

theorem emb0_4 (t : Fin cfg0.N) (y : (⟨3, ![1, 1, 2048]⟩ : Shape).Idx) :
    (((cfg0.win 4).blk t).view.emb y 0 : ℕ) = t.val ∧ (((cfg0.win 4).blk t).view.emb y 1 : ℕ) = 0 ∧ (((cfg0.win 4).blk t).view.emb y 2 : ℕ) = (y 2).val := by
  have h0 : (y 0).val < 1 := (y 0).isLt
  have h1 : (y 1).val < 1 := (y 1).isLt
  refine ⟨(Window.rect_emb_val win0_4 t y 0).trans ?_, (Window.rect_emb_val win0_4 t y 1).trans ?_, (Window.rect_emb_val win0_4 t y 2).trans ?_⟩
  · rw [(index0_4 t).1]; change t.val * 1 + (y 0).val = t.val; omega
  · rw [(index0_4 t).2.1]; change 0 * 1 + (y 1).val = 0; omega
  · rw [(index0_4 t).2.2]; change 0 * 2048 + (y 2).val = (y 2).val; omega

theorem mem0_4 (i : S4x1x2048.Idx) (t : Fin cfg0.N) (ht : t.val = (i 0).val) : i ∈ ((cfg0.win 4).blk t).view.set := by
  have h1 : (i 1).val < 1 := (i 1).isLt
  have e := emb0_4 t (ix3 (0 : Fin 1) (0 : Fin 1) (i 2))
  have h : i = ((cfg0.win 4).blk t).view.emb (ix3 (0 : Fin 1) (0 : Fin 1) (i 2)) := by
    funext a
    refine Fin.ext ?_
    match a with
    | ⟨0, _⟩ => exact (e.1.trans ht).symm
    | ⟨1, _⟩ => exact ((e.2.1.trans (by show 0 = (i 1).val; omega)) : _ = (i 1).val).symm
    | ⟨2, _⟩ => exact e.2.2.symm
  rw [h]
  exact View.emb_mem_set _ _

theorem cover0_4 (i : S4x1x2048.Idx) : ∃ t : Fin cfg0.N, (cfg0.win 4).flush t = true ∧ i ∈ ((cfg0.win 4).blk t).view.set := by
  have h0 : (i 0).val < 4 := (i 0).isLt
  have hN := N0
  exact ⟨⟨(i 0).val, by omega⟩, flush0_4 _, mem0_4 i _ rfl⟩

/-- The squared norms of the rows the program holds at the shorter format. -/
theorem norms0_4 (hx : ∀ (a : Fin 8192) (k : Fin 512), (W c (Proc.devRef .tc main_call0_v2) : S8192x512.Idx → EReal) (ix2 a k) = ((x a.val k.val : ℝ) : EReal))
    (i : S4x1x2048.Idx) : ((dat0 W c).arrAt 4 cfg0.N : S4x1x2048.Idx → EReal) i = ((sq x ((i 0).val * 2048 + (i 2).val) : ℝ) : EReal) := by
  refine (dat0 W c).arrAt_forall_of_cover 4 (fun (i : S4x1x2048.Idx) (v : EReal) => v = ((sq x ((i 0).val * 2048 + (i 2).val) : ℝ) : EReal)) ?_ cover0_4 i
  intro t _ y
  show k0_pay3 (F := Ideal) (blk0 W c 1 t) y = _
  have e := emb0_4 t y
  rw [e.1, e.2.2]
  refine (congrArg (k0_pay3 (F := Ideal) (blk0 W c 1 t)) (eq_row y)).trans ?_
  exact pay3_value _ (fun r k => x (t.val * 2048 + r.val) k.val) (fun r k => (read0_1 W c t r k).trans (hx _ _)) (y 2)

theorem emb0_5 (t : Fin cfg0.N) (y : (⟨3, ![1, 1, 128]⟩ : Shape).Idx) :
    (((cfg0.win 5).blk t).view.emb y 0 : ℕ) = t.val ∧ (((cfg0.win 5).blk t).view.emb y 1 : ℕ) = 0 ∧ (((cfg0.win 5).blk t).view.emb y 2 : ℕ) = (y 2).val := by
  have h0 : (y 0).val < 1 := (y 0).isLt
  have h1 : (y 1).val < 1 := (y 1).isLt
  refine ⟨(Window.rect_emb_val win0_5 t y 0).trans ?_, (Window.rect_emb_val win0_5 t y 1).trans ?_, (Window.rect_emb_val win0_5 t y 2).trans ?_⟩
  · rw [(index0_5 t).1]; change t.val * 1 + (y 0).val = t.val; omega
  · rw [(index0_5 t).2.1]; change 0 * 1 + (y 1).val = 0; omega
  · rw [(index0_5 t).2.2]; change 0 * 128 + (y 2).val = (y 2).val; omega

theorem mem0_5 (i : S4x1x128.Idx) (t : Fin cfg0.N) (ht : t.val = (i 0).val) : i ∈ ((cfg0.win 5).blk t).view.set := by
  have h1 : (i 1).val < 1 := (i 1).isLt
  have e := emb0_5 t (ix3 (0 : Fin 1) (0 : Fin 1) (i 2))
  have h : i = ((cfg0.win 5).blk t).view.emb (ix3 (0 : Fin 1) (0 : Fin 1) (i 2)) := by
    funext a
    refine Fin.ext ?_
    match a with
    | ⟨0, _⟩ => exact (e.1.trans ht).symm
    | ⟨1, _⟩ => exact ((e.2.1.trans (by show 0 = (i 1).val; omega)) : _ = (i 1).val).symm
    | ⟨2, _⟩ => exact e.2.2.symm
  rw [h]
  exact View.emb_mem_set _ _

theorem cover0_5 (i : S4x1x128.Idx) : ∃ t : Fin cfg0.N, (cfg0.win 5).flush t = true ∧ i ∈ ((cfg0.win 5).blk t).view.set := by
  have h0 : (i 0).val < 4 := (i 0).isLt
  have hN := N0
  exact ⟨⟨(i 0).val, by omega⟩, flush0_5 _, mem0_5 i _ rfl⟩

/-- How often each class occurs, block by block. -/
theorem counts0_5 (hl : ∀ (a : Fin 8192), (W c (Proc.devRef .tc main_call0_v1) : S8192x1.Idx → BitVec 32) (ix2 a (0 : Fin 1)) = lab a.val)
    (i : S4x1x128.Idx) : ((dat0 W c).arrAt 5 cfg0.N : S4x1x128.Idx → EReal) i = ((∑ r : Fin 2048, if lab ((i 0).val * 2048 + r.val) = BitVec.ofNat 32 (i 2).val then 1 else 0 : ℝ) : EReal) := by
  refine (dat0 W c).arrAt_forall_of_cover 5 (fun (i : S4x1x128.Idx) (v : EReal) => v = ((∑ r : Fin 2048, if lab ((i 0).val * 2048 + r.val) = BitVec.ofNat 32 (i 2).val then 1 else 0 : ℝ) : EReal)) ?_ cover0_5 i
  intro t _ y
  show k0_pay1 (k0_pay4 (F := Ideal) (blk0 W c 2 t)) y = _
  have e := emb0_5 t y
  rw [e.1, e.2.2]
  refine (congrArg (k0_pay1 (k0_pay4 (F := Ideal) (blk0 W c 2 t))) (eq_row y)).trans ?_
  exact counts_value _ (fun r => lab (t.val * 2048 + r.val)) (fun r => (read0_2 W c t r).trans (hl _)) (y 2)

end Cert.KernelIdeal.Blocks
-- ==== Proof.Values1.lean ====
module

public import proofs.«01_k».proof.Proof.Payloads
public import proofs.«01_k».proof.Proof.Pairs
public import proofs.«01_k».proof.Proof.Values0
public import proofs.«01_k».proof.Proof.IdealRegion1

@[expose] public section

noncomputable section

namespace Cert.KernelIdeal.Blocks

open Idealize.ShloMosaic Idealize.ShloMosaic.TcCoe Idealize.ShloMosaic.ValueIdx
open Idealize.ShloMosaic.Pipeline (Dat Cfg Window)
open Cert.KernelIdeal.Gen Cert.Payloads Cert.LossMath Cert.Pairs Cert.Scalars
open Finset (range Icc)

/-! # The second call's arrays: each row's sum of weights, in two parts -/

theorem N1 : cfg1.N = 36 := N_1
theorem lt36 (t : Fin cfg1.N) : t.val < 36 := lt_of_lt_of_eq t.isLt N1

theorem iWord_eq : ∀ t : Fin grid1.N, iWord (grid1.coords t) = BitVec.ofNat 32 (iN t.val) := by decide +kernel
theorem jWord_eq : ∀ t : Fin grid1.N, jWord (grid1.coords t) = BitVec.ofNat 32 (jN t.val) := by decide +kernel
theorem jNat_eq : ∀ t : Fin grid1.N, jNat (grid1.coords t) = jN t.val := by decide +kernel
theorem cond1_iff : ∀ t : Fin grid1.N, k1_cond1 (grid1.coords t) = 1#1 ↔ iN t.val = jN t.val := by decide +kernel
theorem flush1_6_iff : ∀ t : Fin grid1.N, win1_6.flush t = true ↔ jN t.val = 7 := by decide +kernel
theorem index1_0 : ∀ t : Fin grid1.N, win1_0.index t 0 = 0 ∧ win1_0.index t 1 = iN t.val := by decide +kernel
theorem index1_1 : ∀ t : Fin grid1.N, win1_1.index t 0 = jN t.val ∧ win1_1.index t 1 = 0 := by decide +kernel
theorem index1_2 : ∀ t : Fin grid1.N, win1_2.index t 0 = 0 ∧ win1_2.index t 1 = iN t.val := by decide +kernel
theorem index1_3 : ∀ t : Fin grid1.N, win1_3.index t 0 = jN t.val ∧ win1_3.index t 1 = 0 := by decide +kernel
theorem index1_4 : ∀ t : Fin grid1.N, win1_4.index t 0 = 0 ∧ win1_4.index t 1 = iN t.val := by decide +kernel
theorem index1_5 : ∀ t : Fin grid1.N, win1_5.index t 0 = jN t.val ∧ win1_5.index t 1 = 0 := by decide +kernel
theorem index1_6 : ∀ t : Fin grid1.N, win1_6.index t 0 = iN t.val ∧ win1_6.index t 1 = 0 ∧ win1_6.index t 2 = 0 := by decide +kernel
theorem index1_7 : ∀ t : Fin grid1.N, win1_7.index t 0 = 0 ∧ win1_7.index t 1 = 0 ∧ win1_7.index t 2 = 0 := by decide +kernel

/-- Row `r` of block `n`. -/
def row1024 (n : ℕ) (hn : n < 8) (r : Fin 1024) : Fin 8192 := ⟨n * 1024 + r.val, by omega⟩

theorem iLt (t : Fin cfg1.N) : iN t.val < 8 := iN_lt _ (lt36 t)
theorem jLt (t : Fin cfg1.N) : jN t.val < 8 := jN_lt _ (lt36 t)

/-- A rank-two array read where its two coordinates are known. -/
theorem at_two {α : Type} {n m : ℕ} (A : (⟨2, ![n, m]⟩ : Shape).Idx → α) (i : (⟨2, ![n, m]⟩ : Shape).Idx) (p : Fin n) (q : Fin m)
    (h0 : (i 0).val = p.val) (h1 : (i 1).val = q.val) : A i = A (ix2 p q) := by
  refine congrArg A (funext fun a => Fin.ext ?_)
  match a with
  | ⟨0, _⟩ => exact h0
  | ⟨1, _⟩ => exact h1

theorem off_zero {a n : ℕ} (h : a = 0) (y : ℕ) : a * n + y = y := by subst h; omega

variable (W : Dev nD → Valuation τ sig (Elt Ideal)) (c : Dev nD)

theorem read1_0 (t : Fin cfg1.N) (k : Fin 512) (q : Fin 1024) :
    blk1 W c 0 t (ix2 k q) = (W c (Proc.devRef .tc main_call0_v6) : S512x8192.Idx → EReal) (ix2 k (row1024 (iN t.val) (iLt t) q)) :=
  at_two (W c (Proc.devRef .tc main_call0_v6)) _ _ _ ((Window.rect_emb_val win1_0 t (ix2 k q) 0).trans (off_zero (index1_0 t).1 _))
    ((Window.rect_emb_val win1_0 t (ix2 k q) 1).trans (by rw [(index1_0 t).2]; rfl))
theorem read1_1 (t : Fin cfg1.N) (r : Fin 1024) (k : Fin 512) :
    blk1 W c 1 t (ix2 r k) = (W c (Proc.devRef .tc main_call0_v2) : S8192x512.Idx → EReal) (ix2 (row1024 (jN t.val) (jLt t) r) k) :=
  at_two (W c (Proc.devRef .tc main_call0_v2)) _ _ _ ((Window.rect_emb_val win1_1 t (ix2 r k) 0).trans (by rw [(index1_1 t).1]; rfl))
    ((Window.rect_emb_val win1_1 t (ix2 r k) 1).trans (off_zero (index1_1 t).2 _))
theorem read1_2 (t : Fin cfg1.N) (q : Fin 1024) :
    blk1 W c 2 t (ix2 (0 : Fin 1) q) = (W c (Proc.devRef .tc main_call0_v0) : S1x8192.Idx → BitVec 32) (ix2 (0 : Fin 1) (row1024 (iN t.val) (iLt t) q)) :=
  at_two (W c (Proc.devRef .tc main_call0_v0)) _ _ _ ((Window.rect_emb_val win1_2 t (ix2 (0 : Fin 1) q) 0).trans (off_zero (index1_2 t).1 _))
    ((Window.rect_emb_val win1_2 t (ix2 (0 : Fin 1) q) 1).trans (by rw [(index1_2 t).2]; rfl))
theorem read1_3 (t : Fin cfg1.N) (r : Fin 1024) :
    blk1 W c 3 t (ix2 r (0 : Fin 1)) = (W c (Proc.devRef .tc main_call0_v1) : S8192x1.Idx → BitVec 32) (ix2 (row1024 (jN t.val) (jLt t) r) (0 : Fin 1)) :=
  at_two (W c (Proc.devRef .tc main_call0_v1)) _ _ _ ((Window.rect_emb_val win1_3 t (ix2 r (0 : Fin 1)) 0).trans (by rw [(index1_3 t).1]; rfl))
    ((Window.rect_emb_val win1_3 t (ix2 r (0 : Fin 1)) 1).trans (off_zero (index1_3 t).2 _))
theorem read1_4 (t : Fin cfg1.N) (q : Fin 1024) :
    blk1 W c 4 t (ix2 (0 : Fin 1) q) = (W c (Proc.devRef .tc main_call0_v8) : S1x8192.Idx → EReal) (ix2 (0 : Fin 1) (row1024 (iN t.val) (iLt t) q)) :=
  at_two (W c (Proc.devRef .tc main_call0_v8)) _ _ _ ((Window.rect_emb_val win1_4 t (ix2 (0 : Fin 1) q) 0).trans (off_zero (index1_4 t).1 _))
    ((Window.rect_emb_val win1_4 t (ix2 (0 : Fin 1) q) 1).trans (by rw [(index1_4 t).2]; rfl))
theorem read1_5 (t : Fin cfg1.N) (r : Fin 1024) :
    blk1 W c 5 t (ix2 r (0 : Fin 1)) = (W c (Proc.devRef .tc main_call0_v9) : S8192x1.Idx → EReal) (ix2 (row1024 (jN t.val) (jLt t) r) (0 : Fin 1)) :=
  at_two (W c (Proc.devRef .tc main_call0_v9)) _ _ _ ((Window.rect_emb_val win1_5 t (ix2 r (0 : Fin 1)) 0).trans (by rw [(index1_5 t).1]; rfl))
    ((Window.rect_emb_val win1_5 t (ix2 r (0 : Fin 1)) 1).trans (off_zero (index1_5 t).2 _))

/-- A tile's distance from the norms and the scaled products. -/
theorem dist_eq (x : ℕ → ℕ → ℝ) (a b : ℕ) :
    √(max (sq x b + sq x a + ∑ k : Fin 512, x b k * (-2 * x a k)) eps) = LossMath.dist x b a := by
  unfold LossMath.dist gram
  congr 2
  rw [Finset.mul_sum, sub_eq_add_neg, ← Finset.sum_neg_distrib]
  congr 1
  exact Finset.sum_congr rfl fun k _ => by ring

/-- What the calls over the pairs of blocks find in the arrays they share. -/
structure Shared (W : Dev nD → Valuation τ sig (Elt Ideal)) (c : Dev nD) (x : ℕ → ℕ → ℝ) (lab : ℕ → BitVec 32) : Prop where
  scaled : ∀ (k : Fin 512) (b : Fin 8192), (W c (Proc.devRef .tc main_call0_v6) : S512x8192.Idx → EReal) (ix2 k b) = ((-2 * x b.val k.val : ℝ) : EReal)
  rows : ∀ (a : Fin 8192) (k : Fin 512), (W c (Proc.devRef .tc main_call0_v2) : S8192x512.Idx → EReal) (ix2 a k) = ((x a.val k.val : ℝ) : EReal)
  labRow : ∀ a : Fin 8192, (W c (Proc.devRef .tc main_call0_v0) : S1x8192.Idx → BitVec 32) (ix2 (0 : Fin 1) a) = lab a.val
  labCol : ∀ a : Fin 8192, (W c (Proc.devRef .tc main_call0_v1) : S8192x1.Idx → BitVec 32) (ix2 a (0 : Fin 1)) = lab a.val
  sqRow : ∀ a : Fin 8192, (W c (Proc.devRef .tc main_call0_v8) : S1x8192.Idx → EReal) (ix2 (0 : Fin 1) a) = ((sq x a.val : ℝ) : EReal)
  sqCol : ∀ a : Fin 8192, (W c (Proc.devRef .tc main_call0_v9) : S8192x1.Idx → EReal) (ix2 a (0 : Fin 1)) = ((sq x a.val : ℝ) : EReal)

variable (x : ℕ → ℕ → ℝ) (lab : ℕ → BitVec 32) (H : Shared W c x lab)

include H in
theorem dist1 (t : Fin cfg1.N) (r q : Fin 1024) :
    k2_pay1 (F := Ideal) (blk1 W c 1 t) (blk1 W c 0 t) (blk1 W c 5 t) (blk1 W c 4 t) (ix2 r q)
      = ((LossMath.dist x (jN t.val * 1024 + r.val) (iN t.val * 1024 + q.val) : ℝ) : EReal) := by
  rw [← dist_eq]
  exact dist_value _ _ _ _ (fun r k => x (jN t.val * 1024 + r.val) k.val) (fun k q => -2 * x (iN t.val * 1024 + q.val) k.val)
    (fun r => sq x (jN t.val * 1024 + r.val)) (fun q => sq x (iN t.val * 1024 + q.val))
    (fun r k => (read1_1 W c t r k).trans (H.rows _ _)) (fun k q => (read1_0 W c t k q).trans (H.scaled _ _))
    (fun r => (read1_5 W c t r).trans (H.sqCol _)) (fun q => (read1_4 W c t q).trans (H.sqRow _)) r q

/-- A pair of blocks' part of a row sum. -/
def rowPart (i j q : ℕ) : ℝ := ∑ r : Fin 1024, if i * 1024 + q < j * 1024 + r.val then ex x lab (j * 1024 + r.val) (i * 1024 + q) else 0
/-- A pair of blocks' part of a column sum. -/
def colPart (i j r : ℕ) : ℝ := ∑ q : Fin 1024, if i * 1024 + q.val < j * 1024 + r then ex x lab (j * 1024 + r) (i * 1024 + q.val) else 0

include H in
theorem rowAt_value (t : Fin cfg1.N) (q : Fin 1024) :
    rowAt W c t (ix3 (0 : Fin 1) (0 : Fin 1) q) = ((rowPart x lab (iN t.val) (jN t.val) q.val : ℝ) : EReal) := by
  unfold rowAt rowSums
  rw [iWord_eq t, jWord_eq t]
  refine (rowSums_value _ _ (iLt t) (jLt t) _ _ _ _ _ _ _ (dist1 W c x lab H t) q).trans ?_
  rw [read1_2, H.labRow]
  simp only [read1_3, H.labCol]
  rfl

include H in
theorem rowAddAt_value (t : Fin cfg1.N) (z : FVec Ideal S1x1x1024 .f32) (s : ℝ) (q : Fin 1024) (hz : z (ix3 (0 : Fin 1) (0 : Fin 1) q) = ((s : ℝ) : EReal)) :
    rowAddAt W c t z (ix3 (0 : Fin 1) (0 : Fin 1) q) = ((s + rowPart x lab (iN t.val) (jN t.val) q.val : ℝ) : EReal) := by
  rw [EReal.coe_add, ← rowAt_value W c x lab H t q, ← hz]
  unfold rowAddAt rowAdd k1_pay8
  rw [shapeCast_self]
  rfl

include H in
theorem colAt_value (t : Fin cfg1.N) (r : Fin 1024) :
    colAt W c t (ix3 (0 : Fin 1) (0 : Fin 1) r) = ((colPart x lab (iN t.val) (jN t.val) r.val : ℝ) : EReal) := by
  unfold colAt colSums
  rw [iWord_eq t, jWord_eq t]
  refine (colSums_value _ _ (iLt t) (jLt t) _ _ _ _ _ _ _ (dist1 W c x lab H t) r).trans ?_
  rw [read1_3, H.labCol]
  simp only [read1_2, H.labRow]
  rfl

/-- After step `n` the first block's buffer holds the parts of its run so far. -/
theorem rowAcc_value (H : Shared W c x lab) (q : Fin 1024) : ∀ (n : ℕ) (h : n < cfg1.N),
    rowAcc W c n h (ix3 (0 : Fin 1) (0 : Fin 1) q) = ((∑ j ∈ Icc (iN n) (jN n), rowPart x lab (iN n) j q.val : ℝ) : EReal)
  | 0, h => by
    refine (rowAt_value W c x lab H ⟨0, h⟩ q).trans ?_
    show ((rowPart x lab (iN 0) (jN 0) q.val : ℝ) : EReal) = _
    rw [iN_zero, jN_zero, Finset.Icc_self, Finset.sum_singleton]
  | n + 1, h => by
    have hn : n + 1 < 36 := lt_of_lt_of_eq h N1
    unfold rowAcc
    by_cases hc : iN (n + 1) = jN (n + 1)
    · rw [if_pos ((cond1_iff ⟨n + 1, h⟩).2 hc)]
      refine (rowAt_value W c x lab H ⟨n + 1, h⟩ q).trans ?_
      show ((rowPart x lab (iN (n + 1)) (jN (n + 1)) q.val : ℝ) : EReal) = _
      rw [← hc, Finset.Icc_self, Finset.sum_singleton]
    · rw [if_neg (fun e => hc ((cond1_iff ⟨n + 1, h⟩).1 e))]
      obtain ⟨-, hi, hj, hle⟩ := (next n (by omega)).resolve_left hc
      refine (rowAddAt_value W c x lab H ⟨n + 1, h⟩ _ _ q (rowAcc_value H q n _)).trans ?_
      show ((_ + rowPart x lab (iN (n + 1)) (jN (n + 1)) q.val : ℝ) : EReal) = _
      rw [hi, hj, Finset.sum_Icc_succ_top (by omega)]

/-- One update of the kept buffer, read at a slot. -/
theorem put_value (o : Fin S8x1x1024.rank → ℕ) (j : ℕ) (ho : o = ![j, 0, 0]) (inb : ∀ a, o a + S1x1x1024.size a ≤ S8x1x1024.size a)
    (v : FVec Ideal S1x1x1024 .f32) (y : FVec Ideal S8x1x1024 .f32) (s : Fin 8) (r : Fin 1024) :
    VecWindow.put (s := S8x1x1024) y o S1x1x1024.size (k1_pay2 (F := Ideal) v (VecWindow.window (s := S8x1x1024) y o S1x1x1024.size inb)) (ix3 s (0 : Fin 1) r)
      = y (ix3 s (0 : Fin 1) r) + (if j = s.val then v (ix3 (0 : Fin 1) (0 : Fin 1) r) else 0) := by
  subst ho
  unfold VecWindow.put
  by_cases h : j = s.val
  · have hin : ∀ a : Fin S8x1x1024.rank, (![j, 0, 0] : Fin 3 → ℕ) a ≤ ((ix3 s (0 : Fin 1) r : S8x1x1024.Idx) a).val ∧ ((ix3 s (0 : Fin 1) r : S8x1x1024.Idx) a).val < (![j, 0, 0] : Fin 3 → ℕ) a + S1x1x1024.size a := by
      intro a
      match a with
      | ⟨0, _⟩ => exact ⟨le_of_eq h, by show s.val < j + 1; omega⟩
      | ⟨1, _⟩ => exact ⟨le_refl 0, by show 0 < 0 + 1; omega⟩
      | ⟨2, _⟩ => exact ⟨Nat.zero_le _, by show r.val < 0 + 1024; omega⟩
    rw [dif_pos hin, if_pos h]
    unfold k1_pay2
    rw [shapeCast_self]
    refine congrArg₂ (· + ·) (congrArg y ?_) (congrArg v ?_)
    · funext a
      refine Fin.ext ?_
      match a with
      | ⟨0, _⟩ => show j + 1 * (s.val - j) = s.val; omega
      | ⟨1, _⟩ => rfl
      | ⟨2, _⟩ => show 0 + 1 * (r.val - 0) = r.val; omega
    · funext a
      refine Fin.ext ?_
      match a with
      | ⟨0, _⟩ => show s.val - j = 0; omega
      | ⟨1, _⟩ => rfl
      | ⟨2, _⟩ => show r.val - 0 = r.val; omega
  · rw [dif_neg, if_neg h, add_zero]
    intro hall
    have h0 := hall (0 : Fin 3)
    have h1 : j ≤ s.val := h0.1
    have h2 : s.val < j + 1 := h0.2
    omega

include H in
theorem colPut_value (t : Fin cfg1.N) (y : FVec Ideal S8x1x1024 .f32) (s : Fin 8) (r : Fin 1024) (u : ℝ) (hy : y (ix3 s (0 : Fin 1) r) = ((u : ℝ) : EReal)) :
    colPut (grid1.coords t) (colAt W c t) y (ix3 s (0 : Fin 1) r)
      = ((u + (if jN t.val = s.val then colPart x lab (iN t.val) s.val r.val else 0) : ℝ) : EReal) := by
  unfold colPut
  refine (put_value _ (jN t.val) ((k1_off1_eq _).trans (by rw [jNat_eq])) _ _ y s r).trans ?_
  rw [hy, EReal.coe_add]
  congr 1
  split
  · rename_i h
    rw [colAt_value W c x lab H, h]
  · rfl

/-- After step `n` a slot of the kept buffer holds the parts of the steps so far that it is the second block of. -/
theorem colAcc_value (H : Shared W c x lab) (s : Fin 8) (r : Fin 1024) : ∀ (n : ℕ) (h : n < cfg1.N),
    colAcc W c n h (ix3 s (0 : Fin 1) r) = ((∑ k ∈ range (n + 1), (if jN k = s.val then colPart x lab (iN k) s.val r.val else 0) : ℝ) : EReal)
  | 0, h => by
    rw [Finset.sum_range_one]
    refine (colPut_value W c x lab H ⟨0, h⟩ k1_pay1 s r 0 zero_f32).trans ?_
    rw [zero_add]
  | n + 1, h => by
    rw [Finset.sum_range_succ]
    exact colPut_value W c x lab H ⟨n + 1, h⟩ _ s r _ (colAcc_value H s r n _)

theorem emb1_6 (t : Fin cfg1.N) (y : (⟨3, ![1, 1, 1024]⟩ : Shape).Idx) :
    (((cfg1.win 6).blk t).view.emb y 0 : ℕ) = iN t.val ∧ (((cfg1.win 6).blk t).view.emb y 1 : ℕ) = 0 ∧ (((cfg1.win 6).blk t).view.emb y 2 : ℕ) = (y 2).val := by
  have h0 : (y 0).val < 1 := (y 0).isLt
  have h1 : (y 1).val < 1 := (y 1).isLt
  refine ⟨(Window.rect_emb_val win1_6 t y 0).trans ?_, (Window.rect_emb_val win1_6 t y 1).trans ?_, (Window.rect_emb_val win1_6 t y 2).trans ?_⟩
  · rw [(index1_6 t).1]; change iN t.val * 1 + (y 0).val = iN t.val; omega
  · rw [(index1_6 t).2.1]; change 0 * 1 + (y 1).val = 0; omega
  · rw [(index1_6 t).2.2]; change 0 * 1024 + (y 2).val = (y 2).val; omega

theorem mem1_6 (i : S8x1x1024.Idx) (t : Fin cfg1.N) (ht : iN t.val = (i 0).val) : i ∈ ((cfg1.win 6).blk t).view.set := by
  have h1 : (i 1).val < 1 := (i 1).isLt
  have e := emb1_6 t (ix3 (0 : Fin 1) (0 : Fin 1) (i 2))
  have h : i = ((cfg1.win 6).blk t).view.emb (ix3 (0 : Fin 1) (0 : Fin 1) (i 2)) := by
    funext a
    refine Fin.ext ?_
    match a with
    | ⟨0, _⟩ => exact (e.1.trans ht).symm
    | ⟨1, _⟩ => exact ((e.2.1.trans (by show 0 = (i 1).val; omega)) : _ = (i 1).val).symm
    | ⟨2, _⟩ => exact e.2.2.symm
  rw [h]
  exact View.emb_mem_set _ _

theorem cover1_6 (i : S8x1x1024.Idx) : ∃ t : Fin cfg1.N, (cfg1.win 6).flush t = true ∧ i ∈ ((cfg1.win 6).blk t).view.set := by
  have h0 : (i 0).val < 8 := (i 0).isLt
  obtain ⟨n, hn, hj, hi⟩ := surj 7 (by decide) (i 0).val (by omega)
  have hN := N1
  exact ⟨⟨n, by omega⟩, (flush1_6_iff _).2 hj, mem1_6 i _ hi⟩

/-- The first array: a row's weights with the rows after it. -/
theorem rowSums1 (H : Shared W c x lab) (i : S8x1x1024.Idx) :
    ((dat1 W c).arrAt 6 cfg1.N : S8x1x1024.Idx → EReal) i
      = ((∑ b ∈ range 8192, (if (i 0).val * 1024 + (i 2).val < b then ex x lab b ((i 0).val * 1024 + (i 2).val) else 0) : ℝ) : EReal) := by
  refine (dat1 W c).arrAt_forall_of_cover 6 (fun (i : S8x1x1024.Idx) (v : EReal) => v = ((∑ b ∈ range 8192, (if (i 0).val * 1024 + (i 2).val < b then ex x lab b ((i 0).val * 1024 + (i 2).val) else 0) : ℝ) : EReal)) ?_ cover1_6 i
  intro t hf y
  show rowAcc W c t.val t.isLt y = _
  have e := emb1_6 t y
  rw [e.1, e.2.2]
  refine (congrArg (rowAcc W c t.val t.isLt) (eq_row y)).trans ?_
  refine (rowAcc_value W c x lab H (y 2) t.val t.isLt).trans ?_
  rw [(flush1_6_iff t).1 hf]
  exact congrArg (fun v : ℝ => (v : EReal)) (sum_after (fun b => ex x lab b (iN t.val * 1024 + (y 2).val)) (iN t.val) (y 2).val)

theorem emb1_7 (t : Fin cfg1.N) (y : S8x1x1024.Idx) : (((cfg1.win 7).blk t).view.emb y : S8x1x1024.Idx) = y := by
  funext a
  refine Fin.ext ?_
  match a with
  | ⟨0, _⟩ => exact (Window.rect_emb_val win1_7 t y 0).trans (off_zero (index1_7 t).1 _)
  | ⟨1, _⟩ => exact (Window.rect_emb_val win1_7 t y 1).trans (off_zero (index1_7 t).2.1 _)
  | ⟨2, _⟩ => exact (Window.rect_emb_val win1_7 t y 2).trans (off_zero (index1_7 t).2.2 _)

theorem mem1_7 (i : S8x1x1024.Idx) (t : Fin cfg1.N) : i ∈ ((cfg1.win 7).blk t).view.set := by
  rw [← emb1_7 t i]
  exact View.emb_mem_set _ _

/-- Every index of an array with a unit middle axis is `(s, 0, r)`. -/
theorem eq_slot (y : S8x1x1024.Idx) : y = ix3 (y 0) (0 : Fin 1) (y 2) := by
  funext a
  match a with
  | ⟨0, _⟩ => rfl
  | ⟨1, _⟩ => exact Subsingleton.elim (α := Fin 1) _ _
  | ⟨2, _⟩ => rfl

/-- The second array: a row's weights with the rows before it. -/
theorem colSums1 (H : Shared W c x lab) (i : S8x1x1024.Idx) :
    ((dat1 W c).arrAt 7 cfg1.N : S8x1x1024.Idx → EReal) i
      = ((∑ a ∈ range 8192, (if a < (i 0).val * 1024 + (i 2).val then ex x lab ((i 0).val * 1024 + (i 2).val) a else 0) : ℝ) : EReal) := by
  have hN := N1
  refine (dat1 W c).arrAt_forall_of_cover 7 (fun (i : S8x1x1024.Idx) (v : EReal) => v = ((∑ a ∈ range 8192, (if a < (i 0).val * 1024 + (i 2).val then ex x lab ((i 0).val * 1024 + (i 2).val) a else 0) : ℝ) : EReal)) ?_
    (fun i => ⟨⟨35, by omega⟩, (flush1_7 _).2 rfl, mem1_7 i _⟩) i
  intro t hf y
  have ht : t.val % 36 = 35 := (flush1_7 t).1 hf
  have ht' := lt36 t
  have h35 : t.val = 35 := by omega
  show colAcc W c t.val t.isLt y = _
  rw [emb1_7 t y]
  refine (congrArg (colAcc W c t.val t.isLt) (eq_slot y)).trans ?_
  refine (colAcc_value W c x lab H (y 0) (y 2) t.val t.isLt).trans ?_
  rw [h35, sum_steps (y 0).val (y 0).isLt (fun i => colPart x lab i (y 0).val (y 2).val)]
  unfold colPart
  rw [← sum_before (fun a => ex x lab ((y 0).val * 1024 + (y 2).val) a) (y 0).val (y 2).val (y 0).isLt (y 2).isLt]

end Cert.KernelIdeal.Blocks
-- ==== Proof.Values2.lean ====
module

public import proofs.«01_k».proof.Proof.Values1
public import proofs.«01_k».proof.Proof.IdealRegion2

@[expose] public section

noncomputable section

namespace Cert.KernelIdeal.Blocks

open Idealize.ShloMosaic Idealize.ShloMosaic.TcCoe Idealize.ShloMosaic.ValueIdx
open Idealize.ShloMosaic.Pipeline (Dat Cfg Window)
open Cert.KernelIdeal.Gen Cert.Payloads Cert.LossMath Cert.Pairs Cert.Scalars
open Finset (range Icc)

/-! # The third call's array: each row's half of the loss -/

theorem N2 : cfg2.N = 36 := N_2
theorem iLt2 (t : Fin cfg2.N) : iN t.val < 8 := iN_lt _ (lt_of_lt_of_eq t.isLt N2)
theorem jLt2 (t : Fin cfg2.N) : jN t.val < 8 := jN_lt _ (lt_of_lt_of_eq t.isLt N2)

theorem iWord2_eq : ∀ t : Fin grid2.N, iWord2 (grid2.coords t) = BitVec.ofNat 32 (iN t.val) := by decide +kernel
theorem jWord2_eq : ∀ t : Fin grid2.N, jWord2 (grid2.coords t) = BitVec.ofNat 32 (jN t.val) := by decide +kernel
theorem cond2_iff : ∀ t : Fin grid2.N, k2_cond1 (grid2.coords t) = 1#1 ↔ iN t.val = jN t.val := by decide +kernel
theorem flush2_9_iff : ∀ t : Fin grid2.N, win2_9.flush t = true ↔ jN t.val = 7 := by decide +kernel
theorem index2_0 : ∀ t : Fin grid2.N, win2_0.index t 0 = 0 ∧ win2_0.index t 1 = iN t.val := by decide +kernel
theorem index2_1 : ∀ t : Fin grid2.N, win2_1.index t 0 = jN t.val ∧ win2_1.index t 1 = 0 := by decide +kernel
theorem index2_2 : ∀ t : Fin grid2.N, win2_2.index t 0 = 0 ∧ win2_2.index t 1 = iN t.val := by decide +kernel
theorem index2_3 : ∀ t : Fin grid2.N, win2_3.index t 0 = jN t.val ∧ win2_3.index t 1 = 0 := by decide +kernel
theorem index2_4 : ∀ t : Fin grid2.N, win2_4.index t 0 = 0 ∧ win2_4.index t 1 = iN t.val := by decide +kernel
theorem index2_5 : ∀ t : Fin grid2.N, win2_5.index t 0 = jN t.val ∧ win2_5.index t 1 = 0 := by decide +kernel
theorem index2_6 : ∀ t : Fin grid2.N, win2_6.index t 0 = 0 ∧ win2_6.index t 1 = iN t.val := by decide +kernel
theorem index2_7 : ∀ t : Fin grid2.N, win2_7.index t 0 = 0 ∧ win2_7.index t 1 = iN t.val := by decide +kernel
theorem index2_8 : ∀ t : Fin grid2.N, win2_8.index t 0 = jN t.val ∧ win2_8.index t 1 = 0 := by decide +kernel
theorem index2_9 : ∀ t : Fin grid2.N, win2_9.index t 0 = iN t.val ∧ win2_9.index t 1 = 0 ∧ win2_9.index t 2 = 0 := by decide +kernel

variable (W : Dev nD → Valuation τ sig (Elt Ideal)) (c : Dev nD)

theorem read2_0 (t : Fin cfg2.N) (k : Fin 512) (q : Fin 1024) :
    blk2 W c 0 t (ix2 k q) = (W c (Proc.devRef .tc main_call0_v6) : S512x8192.Idx → EReal) (ix2 k (row1024 (iN t.val) (iLt2 t) q)) :=
  at_two (W c (Proc.devRef .tc main_call0_v6)) _ _ _ ((Window.rect_emb_val win2_0 t (ix2 k q) 0).trans (off_zero (index2_0 t).1 _))
    ((Window.rect_emb_val win2_0 t (ix2 k q) 1).trans (by rw [(index2_0 t).2]; rfl))
theorem read2_1 (t : Fin cfg2.N) (r : Fin 1024) (k : Fin 512) :
    blk2 W c 1 t (ix2 r k) = (W c (Proc.devRef .tc main_call0_v2) : S8192x512.Idx → EReal) (ix2 (row1024 (jN t.val) (jLt2 t) r) k) :=
  at_two (W c (Proc.devRef .tc main_call0_v2)) _ _ _ ((Window.rect_emb_val win2_1 t (ix2 r k) 0).trans (by rw [(index2_1 t).1]; rfl))
    ((Window.rect_emb_val win2_1 t (ix2 r k) 1).trans (off_zero (index2_1 t).2 _))
theorem read2_2 (t : Fin cfg2.N) (q : Fin 1024) :
    blk2 W c 2 t (ix2 (0 : Fin 1) q) = (W c (Proc.devRef .tc main_call0_v0) : S1x8192.Idx → BitVec 32) (ix2 (0 : Fin 1) (row1024 (iN t.val) (iLt2 t) q)) :=
  at_two (W c (Proc.devRef .tc main_call0_v0)) _ _ _ ((Window.rect_emb_val win2_2 t (ix2 (0 : Fin 1) q) 0).trans (off_zero (index2_2 t).1 _))
    ((Window.rect_emb_val win2_2 t (ix2 (0 : Fin 1) q) 1).trans (by rw [(index2_2 t).2]; rfl))
theorem read2_3 (t : Fin cfg2.N) (r : Fin 1024) :
    blk2 W c 3 t (ix2 r (0 : Fin 1)) = (W c (Proc.devRef .tc main_call0_v1) : S8192x1.Idx → BitVec 32) (ix2 (row1024 (jN t.val) (jLt2 t) r) (0 : Fin 1)) :=
  at_two (W c (Proc.devRef .tc main_call0_v1)) _ _ _ ((Window.rect_emb_val win2_3 t (ix2 r (0 : Fin 1)) 0).trans (by rw [(index2_3 t).1]; rfl))
    ((Window.rect_emb_val win2_3 t (ix2 r (0 : Fin 1)) 1).trans (off_zero (index2_3 t).2 _))
theorem read2_4 (t : Fin cfg2.N) (q : Fin 1024) :
    blk2 W c 4 t (ix2 (0 : Fin 1) q) = (W c (Proc.devRef .tc main_call0_v8) : S1x8192.Idx → EReal) (ix2 (0 : Fin 1) (row1024 (iN t.val) (iLt2 t) q)) :=
  at_two (W c (Proc.devRef .tc main_call0_v8)) _ _ _ ((Window.rect_emb_val win2_4 t (ix2 (0 : Fin 1) q) 0).trans (off_zero (index2_4 t).1 _))
    ((Window.rect_emb_val win2_4 t (ix2 (0 : Fin 1) q) 1).trans (by rw [(index2_4 t).2]; rfl))
theorem read2_5 (t : Fin cfg2.N) (r : Fin 1024) :
    blk2 W c 5 t (ix2 r (0 : Fin 1)) = (W c (Proc.devRef .tc main_call0_v9) : S8192x1.Idx → EReal) (ix2 (row1024 (jN t.val) (jLt2 t) r) (0 : Fin 1)) :=
  at_two (W c (Proc.devRef .tc main_call0_v9)) _ _ _ ((Window.rect_emb_val win2_5 t (ix2 r (0 : Fin 1)) 0).trans (by rw [(index2_5 t).1]; rfl))
    ((Window.rect_emb_val win2_5 t (ix2 r (0 : Fin 1)) 1).trans (off_zero (index2_5 t).2 _))
theorem read2_6 (t : Fin cfg2.N) (q : Fin 1024) :
    blk2 W c 6 t (ix2 (0 : Fin 1) q) = (W c (Proc.devRef .tc main_call0_v10) : S1x8192.Idx → EReal) (ix2 (0 : Fin 1) (row1024 (iN t.val) (iLt2 t) q)) :=
  at_two (W c (Proc.devRef .tc main_call0_v10)) _ _ _ ((Window.rect_emb_val win2_6 t (ix2 (0 : Fin 1) q) 0).trans (off_zero (index2_6 t).1 _))
    ((Window.rect_emb_val win2_6 t (ix2 (0 : Fin 1) q) 1).trans (by rw [(index2_6 t).2]; rfl))
theorem read2_7 (t : Fin cfg2.N) (q : Fin 1024) :
    blk2 W c 7 t (ix2 (0 : Fin 1) q) = (W c (Proc.devRef .tc main_call0_v18) : S1x8192.Idx → EReal) (ix2 (0 : Fin 1) (row1024 (iN t.val) (iLt2 t) q)) :=
  at_two (W c (Proc.devRef .tc main_call0_v18)) _ _ _ ((Window.rect_emb_val win2_7 t (ix2 (0 : Fin 1) q) 0).trans (off_zero (index2_7 t).1 _))
    ((Window.rect_emb_val win2_7 t (ix2 (0 : Fin 1) q) 1).trans (by rw [(index2_7 t).2]; rfl))
theorem read2_8 (t : Fin cfg2.N) (r : Fin 1024) :
    blk2 W c 8 t (ix2 r (0 : Fin 1)) = (W c (Proc.devRef .tc main_call0_v19) : S8192x1.Idx → EReal) (ix2 (row1024 (jN t.val) (jLt2 t) r) (0 : Fin 1)) :=
  at_two (W c (Proc.devRef .tc main_call0_v19)) _ _ _ ((Window.rect_emb_val win2_8 t (ix2 r (0 : Fin 1)) 0).trans (by rw [(index2_8 t).1]; rfl))
    ((Window.rect_emb_val win2_8 t (ix2 r (0 : Fin 1)) 1).trans (off_zero (index2_8 t).2 _))

/-- What the third call finds beside the shared arrays: the norms again, and every row's sum of weights. -/
structure Sums (W : Dev nD → Valuation τ sig (Elt Ideal)) (c : Dev nD) (x : ℕ → ℕ → ℝ) (lab : ℕ → BitVec 32) : Prop where
  sqAgain : ∀ a : Fin 8192, (W c (Proc.devRef .tc main_call0_v10) : S1x8192.Idx → EReal) (ix2 (0 : Fin 1) a) = ((sq x a.val : ℝ) : EReal)
  sumRow : ∀ a : Fin 8192, (W c (Proc.devRef .tc main_call0_v18) : S1x8192.Idx → EReal) (ix2 (0 : Fin 1) a) = ((S x lab a.val : ℝ) : EReal)
  sumCol : ∀ a : Fin 8192, (W c (Proc.devRef .tc main_call0_v19) : S8192x1.Idx → EReal) (ix2 a (0 : Fin 1)) = ((S x lab a.val : ℝ) : EReal)

variable (x : ℕ → ℕ → ℝ) (lab : ℕ → BitVec 32) (H : Shared W c x lab) (G : Sums W c x lab)

include H in
theorem dist2 (t : Fin cfg2.N) (r q : Fin 1024) :
    k2_pay1 (F := Ideal) (blk2 W c 1 t) (blk2 W c 0 t) (blk2 W c 5 t) (blk2 W c 4 t) (ix2 r q)
      = ((LossMath.dist x (jN t.val * 1024 + r.val) (iN t.val * 1024 + q.val) : ℝ) : EReal) := by
  rw [← dist_eq]
  exact dist_value _ _ _ _ (fun r k => x (jN t.val * 1024 + r.val) k.val) (fun k q => -2 * x (iN t.val * 1024 + q.val) k.val)
    (fun r => sq x (jN t.val * 1024 + r.val)) (fun q => sq x (iN t.val * 1024 + q.val))
    (fun r k => (read2_1 W c t r k).trans (H.rows _ _)) (fun k q => (read2_0 W c t k q).trans (H.scaled _ _))
    (fun r => (read2_5 W c t r).trans (H.sqCol _)) (fun q => (read2_4 W c t q).trans (H.sqRow _)) r q

/-- A pair of blocks' part of a row's loss. -/
def lossPart (i j q : ℕ) : ℝ :=
  ∑ r : Fin 1024, if i * 1024 + q < j * 1024 + r.val then J x lab (j * 1024 + r.val) (i * 1024 + q) * J x lab (j * 1024 + r.val) (i * 1024 + q) else 0

include H G in
theorem terms2 (t : Fin cfg2.N) (q : Fin 1024) :
    k2_pay4 (F := Ideal) (iWord2 (grid2.coords t)) (jWord2 (grid2.coords t)) (k2_pay1 (blk2 W c 1 t) (blk2 W c 0 t) (blk2 W c 5 t) (blk2 W c 4 t))
        (k2_pay2 (F := Ideal) (blk2 W c 3 t) (blk2 W c 2 t)) (k2_pay3 (blk2 W c 8 t)) (blk2 W c 7 t) (ix3 (0 : Fin 1) (0 : Fin 1) q)
      = ((lossPart x lab (iN t.val) (jN t.val) q.val : ℝ) : EReal) := by
  rw [iWord2_eq t, jWord2_eq t]
  refine (terms_value _ _ (iLt2 t) (jLt2 t) _ _ _ _ _ _ _ (dist2 W c x lab H t) _ _
    (fun r => S x lab (jN t.val * 1024 + r.val)) (fun q => S x lab (iN t.val * 1024 + q.val))
    (fun r => (read2_8 W c t r).trans (G.sumCol _)) (fun q => (read2_7 W c t q).trans (G.sumRow _)) q).trans ?_
  rw [read2_2, H.labRow]
  simp only [read2_3, H.labCol]
  rfl

/-- A row's share of the loss from its own pair. -/
def diagPart (a : ℕ) : ℝ := 1 / 2 * J x lab a a * J x lab a a

theorem diagPart_eq (a : ℕ) : diagPart x lab a = 1 / 2 * tm (S x lab a + S x lab a) (√eps) * tm (S x lab a + S x lab a) (√eps) := by
  unfold diagPart J tm
  rw [if_pos rfl, dist_self]

include H G in
theorem lossAt_value (t : Fin cfg2.N) (q : Fin 1024) :
    lossAt W c t (ix3 (0 : Fin 1) (0 : Fin 1) q)
      = ((lossPart x lab (iN t.val) (jN t.val) q.val + diagPart x lab (iN t.val * 1024 + q.val) : ℝ) : EReal) := by
  unfold lossAt lossNew
  rw [diagPart_eq]
  exact diag_value _ _ _ (fun q => sq x (iN t.val * 1024 + q.val)) (fun q => S x lab (iN t.val * 1024 + q.val))
    (fun q => (read2_4 W c t q).trans (H.sqRow _)) (fun q => (read2_6 W c t q).trans (G.sqAgain _)) (fun q => (read2_7 W c t q).trans (G.sumRow _))
    _ _ _ _ _ _ _ q (terms2 W c x lab H G t q)

include H G in
theorem lossAddAt_value (t : Fin cfg2.N) (z : FVec Ideal S1x1x1024 .f32) (s : ℝ) (q : Fin 1024) (hz : z (ix3 (0 : Fin 1) (0 : Fin 1) q) = ((s : ℝ) : EReal)) :
    lossAddAt W c t z (ix3 (0 : Fin 1) (0 : Fin 1) q) = ((s + lossPart x lab (iN t.val) (jN t.val) q.val : ℝ) : EReal) := by
  rw [EReal.coe_add, ← terms2 W c x lab H G t q, ← hz]
  unfold lossAddAt lossAdd k2_pay6
  rw [shapeCast_self]
  rfl

/-- After step `n` the first block's buffer holds its own pairs' share and the parts of its run so far. -/
theorem lossAcc_value (H : Shared W c x lab) (G : Sums W c x lab) (q : Fin 1024) : ∀ (n : ℕ) (h : n < cfg2.N),
    lossAcc W c n h (ix3 (0 : Fin 1) (0 : Fin 1) q)
      = (((∑ j ∈ Icc (iN n) (jN n), lossPart x lab (iN n) j q.val) + diagPart x lab (iN n * 1024 + q.val) : ℝ) : EReal)
  | 0, h => by
    refine (lossAt_value W c x lab H G ⟨0, h⟩ q).trans ?_
    show ((lossPart x lab (iN 0) (jN 0) q.val + diagPart x lab (iN 0 * 1024 + q.val) : ℝ) : EReal) = _
    rw [iN_zero, jN_zero, Finset.Icc_self, Finset.sum_singleton]
  | n + 1, h => by
    have hn : n + 1 < 36 := lt_of_lt_of_eq h N2
    unfold lossAcc
    by_cases hc : iN (n + 1) = jN (n + 1)
    · rw [if_pos ((cond2_iff ⟨n + 1, h⟩).2 hc)]
      refine (lossAt_value W c x lab H G ⟨n + 1, h⟩ q).trans ?_
      show ((lossPart x lab (iN (n + 1)) (jN (n + 1)) q.val + diagPart x lab (iN (n + 1) * 1024 + q.val) : ℝ) : EReal) = _
      rw [← hc, Finset.Icc_self, Finset.sum_singleton]
    · rw [if_neg (fun e => hc ((cond2_iff ⟨n + 1, h⟩).1 e))]
      obtain ⟨-, hi, hj, hle⟩ := (next n (by omega)).resolve_left hc
      refine (lossAddAt_value W c x lab H G ⟨n + 1, h⟩ _ _ q (lossAcc_value H G q n _)).trans ?_
      show ((_ + lossPart x lab (iN (n + 1)) (jN (n + 1)) q.val : ℝ) : EReal) = _
      rw [hi, hj, Finset.sum_Icc_succ_top (by omega), add_right_comm]

theorem emb2_9 (t : Fin cfg2.N) (y : (⟨3, ![1, 1, 1024]⟩ : Shape).Idx) :
    (((cfg2.win 9).blk t).view.emb y 0 : ℕ) = iN t.val ∧ (((cfg2.win 9).blk t).view.emb y 1 : ℕ) = 0 ∧ (((cfg2.win 9).blk t).view.emb y 2 : ℕ) = (y 2).val := by
  have h0 : (y 0).val < 1 := (y 0).isLt
  have h1 : (y 1).val < 1 := (y 1).isLt
  refine ⟨(Window.rect_emb_val win2_9 t y 0).trans ?_, (Window.rect_emb_val win2_9 t y 1).trans ?_, (Window.rect_emb_val win2_9 t y 2).trans ?_⟩
  · rw [(index2_9 t).1]; change iN t.val * 1 + (y 0).val = iN t.val; omega
  · rw [(index2_9 t).2.1]; change 0 * 1 + (y 1).val = 0; omega
  · rw [(index2_9 t).2.2]; change 0 * 1024 + (y 2).val = (y 2).val; omega

theorem mem2_9 (i : S8x1x1024.Idx) (t : Fin cfg2.N) (ht : iN t.val = (i 0).val) : i ∈ ((cfg2.win 9).blk t).view.set := by
  have h1 : (i 1).val < 1 := (i 1).isLt
  have e := emb2_9 t (ix3 (0 : Fin 1) (0 : Fin 1) (i 2))
  have h : i = ((cfg2.win 9).blk t).view.emb (ix3 (0 : Fin 1) (0 : Fin 1) (i 2)) := by
    funext a
    refine Fin.ext ?_
    match a with
    | ⟨0, _⟩ => exact (e.1.trans ht).symm
    | ⟨1, _⟩ => exact ((e.2.1.trans (by show 0 = (i 1).val; omega)) : _ = (i 1).val).symm
    | ⟨2, _⟩ => exact e.2.2.symm
  rw [h]
  exact View.emb_mem_set _ _

theorem cover2_9 (i : S8x1x1024.Idx) : ∃ t : Fin cfg2.N, (cfg2.win 9).flush t = true ∧ i ∈ ((cfg2.win 9).blk t).view.set := by
  have h0 : (i 0).val < 8 := (i 0).isLt
  obtain ⟨n, hn, hj, hi⟩ := surj 7 (by decide) (i 0).val (by omega)
  have hN := N2
  exact ⟨⟨n, by omega⟩, (flush2_9_iff _).2 hj, mem2_9 i _ hi⟩

/-- A row's half of the loss: the pairs with the rows after it, and half its own pair. -/
def half (a : ℕ) : ℝ := (∑ b ∈ range 8192, if a < b then J x lab b a * J x lab b a else 0) + 1 / 2 * J x lab a a * J x lab a a

/-- The third call's array. -/
theorem losses2 (H : Shared W c x lab) (G : Sums W c x lab) (i : S8x1x1024.Idx) :
    ((dat2 W c).arrAt 9 cfg2.N : S8x1x1024.Idx → EReal) i = ((half x lab ((i 0).val * 1024 + (i 2).val) : ℝ) : EReal) := by
  refine (dat2 W c).arrAt_forall_of_cover 9 (fun (i : S8x1x1024.Idx) (v : EReal) => v = ((half x lab ((i 0).val * 1024 + (i 2).val) : ℝ) : EReal)) ?_ cover2_9 i
  intro t hf y
  show lossAcc W c t.val t.isLt y = _
  have e := emb2_9 t y
  rw [e.1, e.2.2]
  refine (congrArg (lossAcc W c t.val t.isLt) (eq_row y)).trans ?_
  refine (lossAcc_value W c x lab H G (y 2) t.val t.isLt).trans ?_
  rw [(flush2_9_iff t).1 hf]
  exact congrArg (fun v : ℝ => ((v + diagPart x lab (iN t.val * 1024 + (y 2).val) : ℝ) : EReal))
    (sum_after (fun b => J x lab b (iN t.val * 1024 + (y 2).val) * J x lab b (iN t.val * 1024 + (y 2).val)) (iN t.val) (y 2).val)

end Cert.KernelIdeal.Blocks
-- ==== Proof.Values3.lean ====
module

public import proofs.«01_k».proof.Proof.Values2
public import proofs.«01_k».proof.Proof.IdealRun

@[expose] public section

noncomputable section

namespace Cert.KernelIdeal.Blocks

open Idealize.ShloMosaic Idealize.ShloMosaic.TcCoe Idealize.ShloMosaic.ValueIdx
open Cert.KernelIdeal.Gen Cert.LossMath Cert.Scalars
open Finset (range)

/-! # What the host operations between the calls compute -/

/-- Row `a` among four blocks of 2048. -/
def slot4 (a : Fin 8192) : S4x1x2048.Idx := ix3 (⟨a.val / 2048, by omega⟩ : Fin 4) (0 : Fin 1) (⟨a.val % 2048, by omega⟩ : Fin 2048)
/-- Row `a` among eight blocks of 1024. -/
def slot8 (a : Fin 8192) : S8x1x1024.Idx := ix3 (⟨a.val / 1024, by omega⟩ : Fin 8) (0 : Fin 1) (⟨a.val % 1024, by omega⟩ : Fin 1024)

theorem slot4_val (a : Fin 8192) : (S4x1x2048.rowMajor (slot4 a)).val = a.val := by
  refine (Shape.rowMajor_val_three _).trans ?_
  show (a.val / 2048 * 1 + 0) * 2048 + a.val % 2048 = a.val
  omega
theorem slot8_val (a : Fin 8192) : (S8x1x1024.rowMajor (slot8 a)).val = a.val := by
  refine (Shape.rowMajor_val_three _).trans ?_
  show (a.val / 1024 * 1 + 0) * 1024 + a.val % 1024 = a.val
  omega
theorem row_val (a : Fin 8192) : (S1x8192.rowMajor (ix2 (0 : Fin 1) a)).val = a.val := by
  refine (Shape.rowMajor_val_two _).trans ?_
  show 0 * 8192 + a.val = a.val
  omega
theorem col_val (a : Fin 8192) : (S8192x1.rowMajor (ix2 a (0 : Fin 1))).val = a.val := by
  refine (Shape.rowMajor_val_two _).trans ?_
  show a.val * 1 + 0 = a.val
  omega
theorem flat_val (a : Fin 8192) : (S8192.rowMajor (ix1 a)).val = a.val := Shape.rowMajor_val_one _

variable (V : Valuation τ sig (Elt Ideal))

theorem host0_v0 (a : Fin 8192) : (StableHlo.after hostOps0 V (Proc.devRef .tc main_call0_v0) : S1x8192.Idx → BitVec 32) (ix2 (0 : Fin 1) a) = (V (Proc.devRef .tc main_arg1) : S8192.Idx → BitVec 32) (ix1 a) := by
  have e : StableHlo.after hostOps0 V (Proc.devRef .tc main_call0_v0) = shapeCast S1x8192 (V (Proc.devRef .tc main_arg1) : S8192.Idx → BitVec 32) shapeCasts_S8192_S1x8192 := by
    after_results; rfl
  rw [e]
  exact shapeCast_apply _ _ _ _ ((flat_val a).trans (row_val a).symm)
theorem host0_v1 (a : Fin 8192) : (StableHlo.after hostOps0 V (Proc.devRef .tc main_call0_v1) : S8192x1.Idx → BitVec 32) (ix2 a (0 : Fin 1)) = (V (Proc.devRef .tc main_arg1) : S8192.Idx → BitVec 32) (ix1 a) := by
  have e : StableHlo.after hostOps0 V (Proc.devRef .tc main_call0_v1) = shapeCast S8192x1 (V (Proc.devRef .tc main_arg1) : S8192.Idx → BitVec 32) shapeCasts_S8192_S8192x1 := by
    after_results; rfl
  rw [e]
  exact shapeCast_apply _ _ _ _ ((flat_val a).trans (col_val a).symm)
theorem host0_v2 (i : S8192x512.Idx) : (StableHlo.after hostOps0 V (Proc.devRef .tc main_call0_v2) : S8192x512.Idx → EReal) i = (V (Proc.devRef .tc main_arg0) : S8192x512.Idx → EReal) i := by
  have e : StableHlo.after hostOps0 V (Proc.devRef .tc main_call0_v2) = (V (Proc.devRef .tc main_arg0) : S8192x512.Idx → EReal) := by
    after_results; rfl
  rw [e]
theorem host0_v6 (k : Fin 512) (b : Fin 8192) : (StableHlo.after hostOps0 V (Proc.devRef .tc main_call0_v6) : S512x8192.Idx → EReal) (ix2 k b)
    = ((-2 : ℝ) : EReal) * (V (Proc.devRef .tc main_arg0) : S8192x512.Idx → EReal) (ix2 b k) := by
  have e : StableHlo.after hostOps0 V (Proc.devRef .tc main_call0_v6)
      = transpose S512x8192 [1, 0] (mulf (F := Ideal) (φ := .f32) (broadcastInDim S8192x512 ![] bcast_S_S8192x512 (constant S_ .f32 0xC0000000#32)) (V (Proc.devRef .tc main_arg0) : S8192x512.Idx → EReal)) transposes_S8192x512_S512x8192_1_0 := by
    after_results; rfl
  rw [e]
  refine (transpose_apply _ _ _ _ (ix2 b k) ?_).trans ?_
  · intro a
    match a with
    | ⟨0, _⟩ => rfl
    | ⟨1, _⟩ => rfl
  · rw [← negTwo_f32]; rfl

theorem host1_v8 (a : Fin 8192) : (StableHlo.after hostOps1 V (Proc.devRef .tc main_call0_v8) : S1x8192.Idx → EReal) (ix2 (0 : Fin 1) a) = (V (Proc.devRef .tc main_call0_v7_0) : S4x1x2048.Idx → EReal) (slot4 a) := by
  have e : StableHlo.after hostOps1 V (Proc.devRef .tc main_call0_v8) = shapeCast S1x8192 (V (Proc.devRef .tc main_call0_v7_0) : S4x1x2048.Idx → EReal) shapeCasts_S4x1x2048_S1x8192 := by
    after_results; rfl
  rw [e]
  exact shapeCast_apply _ _ _ _ ((slot4_val a).trans (row_val a).symm)
theorem host1_v9 (a : Fin 8192) : (StableHlo.after hostOps1 V (Proc.devRef .tc main_call0_v9) : S8192x1.Idx → EReal) (ix2 a (0 : Fin 1)) = (V (Proc.devRef .tc main_call0_v7_0) : S4x1x2048.Idx → EReal) (slot4 a) := by
  have e : StableHlo.after hostOps1 V (Proc.devRef .tc main_call0_v9) = shapeCast S8192x1 (V (Proc.devRef .tc main_call0_v7_0) : S4x1x2048.Idx → EReal) shapeCasts_S4x1x2048_S8192x1 := by
    after_results; rfl
  rw [e]
  exact shapeCast_apply _ _ _ _ ((slot4_val a).trans (col_val a).symm)
theorem host1_v10 (a : Fin 8192) : (StableHlo.after hostOps1 V (Proc.devRef .tc main_call0_v10) : S1x8192.Idx → EReal) (ix2 (0 : Fin 1) a) = (V (Proc.devRef .tc main_call0_v7_1) : S4x1x2048.Idx → EReal) (slot4 a) := by
  have e : StableHlo.after hostOps1 V (Proc.devRef .tc main_call0_v10) = shapeCast S1x8192 (V (Proc.devRef .tc main_call0_v7_1) : S4x1x2048.Idx → EReal) shapeCasts_S4x1x2048_S1x8192 := by
    after_results; rfl
  rw [e]
  exact shapeCast_apply _ _ _ _ ((slot4_val a).trans (row_val a).symm)

/-- The classes' total counts, squared and summed. -/
theorem host1_v13 (n : ℕ → ℕ → ℝ) (hn : ∀ (b : Fin 4) (k : Fin 128), (V (Proc.devRef .tc main_call0_v7_2) : S4x1x128.Idx → EReal) (ix3 b (0 : Fin 1) k) = ((n b.val k.val : ℝ) : EReal)) (j : S_.Idx) :
    (StableHlo.after hostOps1 V (Proc.devRef .tc main_call0_v13) : S_.Idx → EReal) j
      = ((∑ k : Fin 128, (∑ b ∈ range 4, n b k.val) * (∑ b ∈ range 4, n b k.val) : ℝ) : EReal) := by
  have key : ∀ k : Fin 128, Host.reduceAdd (F := Ideal) (φ := .f32) (V (Proc.devRef .tc main_call0_v7_2) : S4x1x128.Idx → EReal) (constant S_ .f32 0x00000000#32) reducesTo_S4x1x128_S1x128_d0 h_S_ (ix2 (0 : Fin 1) k) = ((∑ b ∈ range 4, n b k.val : ℝ) : EReal) := by
    intro k
    refine (Ideal.hostReduceAdd_single reducesTo_S4x1x128_S1x128_d0 (by decide) _ _ _).trans ?_
    rw [show (constant (F := Ideal) S_ .f32 0x00000000#32 (Shape.Idx.first h_S_)) = ((0 : ℝ) : EReal) from zero_f32, EReal.coe_zero, zero_add,
      Finset.sum_range, ← sum_coe]
    refine Finset.sum_congr rfl fun (b : Fin 4) _ => ?_
    rw [← hn b k]
    refine congrArg (V (Proc.devRef .tc main_call0_v7_2) : S4x1x128.Idx → EReal) (funext fun a => Fin.ext ?_)
    match a with
    | ⟨0, _⟩ => rfl
    | ⟨1, _⟩ => rfl
    | ⟨2, _⟩ => rfl
  have e : StableHlo.after hostOps1 V (Proc.devRef .tc main_call0_v13)
      = Host.reduceAdd (F := Ideal) (φ := .f32) (mulf (Host.reduceAdd (F := Ideal) (φ := .f32) (V (Proc.devRef .tc main_call0_v7_2) : S4x1x128.Idx → EReal) (constant S_ .f32 0x00000000#32) reducesTo_S4x1x128_S1x128_d0 h_S_)
          (Host.reduceAdd (F := Ideal) (φ := .f32) (V (Proc.devRef .tc main_call0_v7_2) : S4x1x128.Idx → EReal) (constant S_ .f32 0x00000000#32) reducesTo_S4x1x128_S1x128_d0 h_S_))
          (constant S_ .f32 0x00000000#32) reducesTo_S1x128_S_d0_1 h_S_ := by
    after_results; rfl
  rw [e]
  refine (Ideal.hostReduceAdd_total reducesTo_S1x128_S_d0_1 (by decide) _ _ _).trans ?_
  rw [show (constant (F := Ideal) S_ .f32 0x00000000#32 (Shape.Idx.first h_S_)) = ((0 : ℝ) : EReal) from zero_f32, EReal.coe_zero, zero_add, sum_idx2,
    Fin.sum_univ_one, ← sum_coe]
  refine Finset.sum_congr rfl fun (k : Fin 128) _ => ?_
  rw [mulf_apply, key, EReal.coe_mul]

theorem host2_v17 (a : Fin 8192) (p q : ℝ) (hp : (V (Proc.devRef .tc main_call0_v14_0) : S8x1x1024.Idx → EReal) (slot8 a) = ((p : ℝ) : EReal))
    (hq : (V (Proc.devRef .tc main_call0_v14_1) : S8x1x1024.Idx → EReal) (slot8 a) = ((q : ℝ) : EReal)) :
    (addf (F := Ideal) (φ := .f32) (shapeCast S8192 (V (Proc.devRef .tc main_call0_v14_0) : S8x1x1024.Idx → EReal) shapeCasts_S8x1x1024_S8192)
        (shapeCast S8192 (V (Proc.devRef .tc main_call0_v14_1) : S8x1x1024.Idx → EReal) shapeCasts_S8x1x1024_S8192) : S8192.Idx → EReal) (ix1 a)
      = ((p + q : ℝ) : EReal) := by
  rw [EReal.coe_add, ← hp, ← hq]
  exact congrArg₂ (fun u v : EReal => u + v) (shapeCast_apply _ _ _ (slot8 a) ((slot8_val a).trans (flat_val a).symm)) (shapeCast_apply _ _ _ (slot8 a) ((slot8_val a).trans (flat_val a).symm))

theorem host2_v18 (a : Fin 8192) (p q : ℝ) (hp : (V (Proc.devRef .tc main_call0_v14_0) : S8x1x1024.Idx → EReal) (slot8 a) = ((p : ℝ) : EReal))
    (hq : (V (Proc.devRef .tc main_call0_v14_1) : S8x1x1024.Idx → EReal) (slot8 a) = ((q : ℝ) : EReal)) :
    (StableHlo.after hostOps2 V (Proc.devRef .tc main_call0_v18) : S1x8192.Idx → EReal) (ix2 (0 : Fin 1) a) = ((p + q : ℝ) : EReal) := by
  have e : StableHlo.after hostOps2 V (Proc.devRef .tc main_call0_v18) = shapeCast S1x8192 (addf (F := Ideal) (φ := .f32) (shapeCast S8192 (V (Proc.devRef .tc main_call0_v14_0) : S8x1x1024.Idx → EReal) shapeCasts_S8x1x1024_S8192)
        (shapeCast S8192 (V (Proc.devRef .tc main_call0_v14_1) : S8x1x1024.Idx → EReal) shapeCasts_S8x1x1024_S8192)) shapeCasts_S8192_S1x8192 := by
    after_results; rfl
  rw [e]
  exact (shapeCast_apply _ _ _ _ ((flat_val a).trans (row_val a).symm)).trans (host2_v17 V a p q hp hq)
theorem host2_v19 (a : Fin 8192) (p q : ℝ) (hp : (V (Proc.devRef .tc main_call0_v14_0) : S8x1x1024.Idx → EReal) (slot8 a) = ((p : ℝ) : EReal))
    (hq : (V (Proc.devRef .tc main_call0_v14_1) : S8x1x1024.Idx → EReal) (slot8 a) = ((q : ℝ) : EReal)) :
    (StableHlo.after hostOps2 V (Proc.devRef .tc main_call0_v19) : S8192x1.Idx → EReal) (ix2 a (0 : Fin 1)) = ((p + q : ℝ) : EReal) := by
  have e : StableHlo.after hostOps2 V (Proc.devRef .tc main_call0_v19) = shapeCast S8192x1 (addf (F := Ideal) (φ := .f32) (shapeCast S8192 (V (Proc.devRef .tc main_call0_v14_0) : S8x1x1024.Idx → EReal) shapeCasts_S8x1x1024_S8192)
        (shapeCast S8192 (V (Proc.devRef .tc main_call0_v14_1) : S8x1x1024.Idx → EReal) shapeCasts_S8x1x1024_S8192)) shapeCasts_S8192_S8192x1 := by
    after_results; rfl
  rw [e]
  exact (shapeCast_apply _ _ _ _ ((flat_val a).trans (col_val a).symm)).trans (host2_v17 V a p q hp hq)

/-- A sum over the eight blocks' slots is a sum over the rows. -/
theorem sum_slots (g : ℕ → ℝ) : ∑ i : S8x1x1024.Idx, g ((i 0).val * 1024 + (i 2).val) = ∑ a ∈ range 8192, g a := by
  rw [show (8192 : ℕ) = 8 * 1024 from rfl, sum_blocks, Finset.sum_range, ← sum_idx2 (fun y : (⟨2, ![8, 1024]⟩ : Shape).Idx => g ((y 0).val * 1024 + (y 1).val))]
  refine Finset.sum_bij' (fun i _ => ix2 (i 0 : Fin 8) (i 2 : Fin 1024)) (fun y _ => ix3 (y 0 : Fin 8) (0 : Fin 1) (y 1 : Fin 1024)) (fun _ _ => Finset.mem_univ _) (fun _ _ => Finset.mem_univ _) ?_ ?_ ?_
  · exact fun i _ => (eq_slot i).symm
  · intro y _
    funext a
    match a with
    | ⟨0, _⟩ => rfl
    | ⟨1, _⟩ => rfl
  · exact fun _ _ => rfl

/-- The result: the rows' halves of the loss, summed and divided by the count. -/
theorem host3_v0 (g : ℕ → ℝ) (d : ℝ) (hd : d ≠ 0) (hg : ∀ i : S8x1x1024.Idx, (V (Proc.devRef .tc main_call0_v20) : S8x1x1024.Idx → EReal) i = ((g ((i 0).val * 1024 + (i 2).val) : ℝ) : EReal))
    (hv : ∀ j : S_.Idx, (V (Proc.devRef .tc main_call0_v13) : S_.Idx → EReal) j = ((d : ℝ) : EReal)) (j : S_.Idx) :
    (StableHlo.after hostOps3 V (Proc.devRef .tc main_v0) : S_.Idx → EReal) j = (((∑ a ∈ range 8192, g a) / d : ℝ) : EReal) := by
  have e : StableHlo.after hostOps3 V (Proc.devRef .tc main_v0)
      = Host.divf (F := Ideal) (φ := .f32) (Host.reduceAdd (F := Ideal) (φ := .f32) (V (Proc.devRef .tc main_call0_v20) : S8x1x1024.Idx → EReal) (constant S_ .f32 0x00000000#32) reducesTo_S8x1x1024_S_d0_1_2 h_S_)
          (V (Proc.devRef .tc main_call0_v13) : S_.Idx → EReal) := by
    after_results; rfl
  have top : Host.reduceAdd (F := Ideal) (φ := .f32) (V (Proc.devRef .tc main_call0_v20) : S8x1x1024.Idx → EReal) (constant S_ .f32 0x00000000#32) reducesTo_S8x1x1024_S_d0_1_2 h_S_ j = ((∑ a ∈ range 8192, g a : ℝ) : EReal) := by
    refine (Ideal.hostReduceAdd_total reducesTo_S8x1x1024_S_d0_1_2 (by decide) _ _ _).trans ?_
    rw [show (constant (F := Ideal) S_ .f32 0x00000000#32 (Shape.Idx.first h_S_)) = ((0 : ℝ) : EReal) from zero_f32, EReal.coe_zero, zero_add, ← sum_slots, ← sum_coe]
    exact Finset.sum_congr rfl fun i _ => hg i
  rw [e]
  show Ideal.div _ _ = _
  rw [top, hv, Ideal.div_coe hd, ← EReal.coe_mul, mul_one_div]

end Cert.KernelIdeal.Blocks
-- ==== Proof.Values4.lean ====
module

public import proofs.«01_k».proof.Proof.Values3

@[expose] public section

noncomputable section

namespace Cert.KernelIdeal.Blocks

open Idealize.ShloMosaic Idealize.ShloMosaic.TcCoe Idealize.ShloMosaic.ValueIdx
open Cert.KernelIdeal.Gen Cert.LossMath Cert.Scalars
open Finset (range)

/-! # The kernel's result is the loss -/

variable (m : (ℓ : Loc nD τ sig) → Buf (Elt Ideal) ℓ) (c : Dev nD) (x : ℕ → ℕ → ℝ) (lab : ℕ → BitVec 32)

/-- The launch's arguments: real features, and labels naming one of 128 classes. -/
structure Launched (m : (ℓ : Loc nD τ sig) → Buf (Elt Ideal) ℓ) (c : Dev nD) (x : ℕ → ℕ → ℝ) (lab : ℕ → BitVec 32) : Prop where
  feat : ∀ (a : Fin 8192) (k : Fin 512), (W0 m c (Proc.devRef .tc main_arg0) : S8192x512.Idx → EReal) (ix2 a k) = ((x a.val k.val : ℝ) : EReal)
  labels : ∀ a : Fin 8192, (W0 m c (Proc.devRef .tc main_arg1) : S8192.Idx → BitVec 32) (ix1 a) = lab a.val
  classes : ∀ a < 8192, (lab a).toNat < 128

variable (L : Launched m c x lab)
include L

theorem v2_1 (a : Fin 8192) (k : Fin 512) : (W1 m c (Proc.devRef .tc main_call0_v2) : S8192x512.Idx → EReal) (ix2 a k) = ((x a.val k.val : ℝ) : EReal) :=
  (host0_v2 (W0 m c) _).trans (L.feat a k)
theorem v6_1 (k : Fin 512) (b : Fin 8192) : (W1 m c (Proc.devRef .tc main_call0_v6) : S512x8192.Idx → EReal) (ix2 k b) = ((-2 * x b.val k.val : ℝ) : EReal) := by
  rw [EReal.coe_mul, ← L.feat b k]
  exact host0_v6 (W0 m c) k b
theorem v0_1 (a : Fin 8192) : (W1 m c (Proc.devRef .tc main_call0_v0) : S1x8192.Idx → BitVec 32) (ix2 (0 : Fin 1) a) = lab a.val :=
  (host0_v0 (W0 m c) a).trans (L.labels a)
theorem v1_1 (a : Fin 8192) : (W1 m c (Proc.devRef .tc main_call0_v1) : S8192x1.Idx → BitVec 32) (ix2 a (0 : Fin 1)) = lab a.val :=
  (host0_v1 (W0 m c) a).trans (L.labels a)

theorem feat_1 (a : Fin 8192) (k : Fin 512) : (W1 m c (Proc.devRef .tc main_arg0) : S8192x512.Idx → EReal) (ix2 a k) = ((x a.val k.val : ℝ) : EReal) :=
  (congrFun (W1_of m c main_arg0 (by decide)) _).trans (L.feat a k)

/-- The first call's norms, at a row. -/
theorem v7_0_2 (a : Fin 8192) : (W2 m c (Proc.devRef .tc main_call0_v7_0) : S4x1x2048.Idx → EReal) (slot4 a) = ((sq x a.val : ℝ) : EReal) := by
  refine (congrFun (Pipeline.afterRegion_arr (dat0 (W1 m) c) (W1 m c) winFacts0.arr_inj 3) (slot4 a)).trans ?_
  refine (norms0_3 (W1 m) c x (feat_1 m c x lab L) (slot4 a)).trans ?_
  show ((sq x (a.val / 2048 * 2048 + a.val % 2048) : ℝ) : EReal) = _
  rw [Nat.div_add_mod']
theorem v7_1_2 (a : Fin 8192) : (W2 m c (Proc.devRef .tc main_call0_v7_1) : S4x1x2048.Idx → EReal) (slot4 a) = ((sq x a.val : ℝ) : EReal) := by
  refine (congrFun (Pipeline.afterRegion_arr (dat0 (W1 m) c) (W1 m c) winFacts0.arr_inj 4) (slot4 a)).trans ?_
  refine (norms0_4 (W1 m) c x (v2_1 m c x lab L) (slot4 a)).trans ?_
  show ((sq x (a.val / 2048 * 2048 + a.val % 2048) : ℝ) : EReal) = _
  rw [Nat.div_add_mod']
theorem v7_2_2 (b : Fin 4) (k : Fin 128) : (W2 m c (Proc.devRef .tc main_call0_v7_2) : S4x1x128.Idx → EReal) (ix3 b (0 : Fin 1) k)
    = ((∑ r : Fin 2048, if lab (b.val * 2048 + r.val) = BitVec.ofNat 32 k.val then 1 else 0 : ℝ) : EReal) := by
  refine (congrFun (Pipeline.afterRegion_arr (dat0 (W1 m) c) (W1 m c) winFacts0.arr_inj 5) _).trans ?_
  exact counts0_5 (W1 m) c lab (v1_1 m c x lab L) _

/-- What the calls over the pairs of blocks share, at the second call. -/
theorem shared3 : Shared (W3 m) c x lab where
  scaled k b := (congrFun ((W3_of m c main_call0_v6 (by decide)).trans (W2_of m c main_call0_v6 (by decide))) _).trans (v6_1 m c x lab L k b)
  rows a k := (congrFun ((W3_of m c main_call0_v2 (by decide)).trans (W2_of m c main_call0_v2 (by decide))) _).trans (v2_1 m c x lab L a k)
  labRow a := (congrFun ((W3_of m c main_call0_v0 (by decide)).trans (W2_of m c main_call0_v0 (by decide))) _).trans (v0_1 m c x lab L a)
  labCol a := (congrFun ((W3_of m c main_call0_v1 (by decide)).trans (W2_of m c main_call0_v1 (by decide))) _).trans (v1_1 m c x lab L a)
  sqRow a := (host1_v8 (W2 m c) a).trans (v7_0_2 m c x lab L a)
  sqCol a := (host1_v9 (W2 m c) a).trans (v7_0_2 m c x lab L a)

/-- The count of pairs of one class. -/
theorem v13_3 (j : S_.Idx) : (W3 m c (Proc.devRef .tc main_call0_v13) : S_.Idx → EReal) j = ((npos lab : ℝ) : EReal) := by
  refine (host1_v13 (W2 m c) (fun b k => ∑ r : Fin 2048, if lab (b * 2048 + r.val) = BitVec.ofNat 32 k then 1 else 0) (v7_2_2 m c x lab L) j).trans ?_
  rw [← counts_sq lab L.classes]
  refine congrArg (fun v : ℝ => (v : EReal)) (Finset.sum_congr rfl fun k _ => ?_)
  have e := sum_blocks (fun a => if lab a = BitVec.ofNat 32 k.val then (1 : ℝ) else 0) 4 2048
  exact congrArg₂ (· * ·) e.symm e.symm

theorem shared5 : Shared (W5 m) c x lab where
  scaled k b := (congrFun ((W5_of m c main_call0_v6 (by decide)).trans (W4_of m c main_call0_v6 (by decide))) _).trans ((shared3 m c x lab L).scaled k b)
  rows a k := (congrFun ((W5_of m c main_call0_v2 (by decide)).trans (W4_of m c main_call0_v2 (by decide))) _).trans ((shared3 m c x lab L).rows a k)
  labRow a := (congrFun ((W5_of m c main_call0_v0 (by decide)).trans (W4_of m c main_call0_v0 (by decide))) _).trans ((shared3 m c x lab L).labRow a)
  labCol a := (congrFun ((W5_of m c main_call0_v1 (by decide)).trans (W4_of m c main_call0_v1 (by decide))) _).trans ((shared3 m c x lab L).labCol a)
  sqRow a := (congrFun ((W5_of m c main_call0_v8 (by decide)).trans (W4_of m c main_call0_v8 (by decide))) _).trans ((shared3 m c x lab L).sqRow a)
  sqCol a := (congrFun ((W5_of m c main_call0_v9 (by decide)).trans (W4_of m c main_call0_v9 (by decide))) _).trans ((shared3 m c x lab L).sqCol a)

/-- The two parts of a row's sum of weights, at a row. -/
theorem v14_0_4 (a : Fin 8192) : (W4 m c (Proc.devRef .tc main_call0_v14_0) : S8x1x1024.Idx → EReal) (slot8 a) = ((∑ b ∈ range 8192, (if a.val < b then ex x lab b a.val else 0) : ℝ) : EReal) := by
  refine (congrFun (Pipeline.afterRegion_arr (dat1 (W3 m) c) (W3 m c) winFacts1.arr_inj 6) (slot8 a)).trans ?_
  refine (rowSums1 (W3 m) c x lab (shared3 m c x lab L) (slot8 a)).trans ?_
  have e : ((slot8 a) 0).val * 1024 + ((slot8 a) 2).val = a.val := Nat.div_add_mod' a.val 1024
  rw [e]
theorem v14_1_4 (a : Fin 8192) : (W4 m c (Proc.devRef .tc main_call0_v14_1) : S8x1x1024.Idx → EReal) (slot8 a) = ((∑ b ∈ range 8192, (if b < a.val then ex x lab a.val b else 0) : ℝ) : EReal) := by
  refine (congrFun (Pipeline.afterRegion_arr (dat1 (W3 m) c) (W3 m c) winFacts1.arr_inj 7) (slot8 a)).trans ?_
  refine (colSums1 (W3 m) c x lab (shared3 m c x lab L) (slot8 a)).trans ?_
  have e : ((slot8 a) 0).val * 1024 + ((slot8 a) 2).val = a.val := Nat.div_add_mod' a.val 1024
  rw [e]

/-- What the third call finds beside them. -/
theorem sums5 : Sums (W5 m) c x lab where
  sqAgain a := (congrFun ((W5_of m c main_call0_v10 (by decide)).trans (W4_of m c main_call0_v10 (by decide))) _).trans ((host1_v10 (W2 m c) a).trans (v7_1_2 m c x lab L a))
  sumRow a := (host2_v18 (W4 m c) a _ _ (v14_0_4 m c x lab L a) (v14_1_4 m c x lab L a)).trans (congrArg (fun v : ℝ => (v : EReal)) (S_split x lab a.val))
  sumCol a := (host2_v19 (W4 m c) a _ _ (v14_0_4 m c x lab L a) (v14_1_4 m c x lab L a)).trans (congrArg (fun v : ℝ => (v : EReal)) (S_split x lab a.val))

/-- The result. -/
theorem result7 (j : S_.Idx) : (W7 m c (Proc.devRef .tc main_v0) : S_.Idx → EReal) j = ((loss x lab : ℝ) : EReal) := by
  refine (host3_v0 (W6 m c) (half x lab) (npos lab) (npos_pos lab).ne' ?_ ?_ j).trans ?_
  · intro i
    refine (congrFun (Pipeline.afterRegion_arr (dat2 (W5 m) c) (W5 m c) winFacts2.arr_inj 9) i).trans ?_
    exact losses2 (W5 m) c x lab (shared5 m c x lab L) (sums5 m c x lab L) i
  · intro j
    refine (congrFun ((W6_of m c main_call0_v13 (by decide)).trans ((W5_of m c main_call0_v13 (by decide)).trans (W4_of m c main_call0_v13 (by decide)))) j).trans ?_
    exact v13_3 m c x lab L j
  · unfold half loss
    rw [total_split, div_div]

end Cert.KernelIdeal.Blocks
-- ==== Proof.Algebraic.lean ====
module

public import proofs.«01_k».proof.Defs
public import proofs.«01_k».proof.Proof.Gen.ReferenceIdeal.Run
public import proofs.«01_k».proof.Proof.RefValue
public import proofs.«01_k».proof.Proof.Values4
public import proofs.«01_k».proof.Proof.IdealRun

@[expose] public section

noncomputable section

/-! # What the precondition says of the arguments, and the two programs' equal results -/

namespace Cert.Agree

open Idealize.ShloMosaic Idealize.SL.Sem Idealize.ShloMosaic.ValueIdx
open Cert.LossMath

theorem bcast_features : (⟨0, ![]⟩ : Shape).BroadcastsInDim ⟨2, ![8192, 512]⟩ (![] : Fin 0 → Fin 2) := by decide
theorem all_features : (⟨2, ![8192, 512]⟩ : Shape).ReducesTo [0, 1] ⟨0, ![]⟩ := by decide
theorem bcast_labels : (⟨0, ![]⟩ : Shape).BroadcastsInDim ⟨1, ![8192]⟩ (![] : Fin 0 → Fin 1) := by decide
theorem all_labels : (⟨1, ![8192]⟩ : Shape).ReducesTo [0] ⟨0, ![]⟩ := by decide

/-- The facts the precondition states. -/
instance preFacts : Cert.Pre_finite_and_classes.Facts where
  bcast_S_S8192x512 := bcast_features
  reducesTo_S8192x512_S_d0_1 := all_features
  h_S_ := by decide
  bcast_S_S8192 := bcast_labels
  reducesTo_S8192_S_d0 := all_labels

variable (f : FVec Ideal (⟨2, ![8192, 512]⟩ : Shape) .f32) (l : IVec (⟨1, ![8192]⟩ : Shape) 32)

/-- The word the features' sizes are compared with is infinite. -/
theorem top_f32 : Ideal.ofBits .f32 0x7F800000#32 = ⊤ := by
  simp [Ideal.ofBits, Ideal.ieee]

/-- An extended real whose size is below infinity is a real. -/
theorem coe_of_abs_lt {v : EReal} (h : max v (-v) < ⊤) : v = ((v.toReal : ℝ) : EReal) := by
  refine (EReal.coe_toReal (fun e => ?_) (fun e => ?_)).symm
  · rw [e] at h; exact absurd (lt_of_le_of_lt (le_max_left _ _) h) (lt_irrefl _)
  · rw [e, EReal.neg_bot] at h; exact absurd (lt_of_le_of_lt (le_max_right _ _) h) (lt_irrefl _)

variable (h : Cert.Pre_finite_and_classes.fn (F := Ideal) f l = fun _ => 1#1)
include h

/-- Each feature is a real. -/
theorem finite (i : (⟨2, ![8192, 512]⟩ : Shape).Idx) : f i = ((EReal.toReal (f i) : ℝ) : EReal) := by
  have hsub : Subsingleton (⟨0, ![]⟩ : Shape).Idx := ⟨fun a b => funext fun k => k.elim0⟩
  have e := Host.reduce_andi_all _ _ _ _ _ (IntOp.andi_eq_one.1 (congrFun h (fun k => k.elim0))).1 i
  have e' : Ideal.cmp .olt (max (f i) (-(f i))) (Ideal.ofBits .f32 0x7F800000#32) = 1#1 := e
  rw [top_f32] at e'
  exact coe_of_abs_lt ((WordCmp.ofBool_decide_eq_one_iff _).1 e')

/-- Each label is a class. -/
theorem class_lt (i : (⟨1, ![8192]⟩ : Shape).Idx) : (l i).toNat < 128 := by
  have hsub : Subsingleton (⟨0, ![]⟩ : Shape).Idx := ⟨fun a b => funext fun k => k.elim0⟩
  have e := Host.reduce_andi_all _ _ _ _ _ (IntOp.andi_eq_one.1 (congrFun h (fun k => k.elim0))).2 i
  have e' : IntOp.andi (IntOp.cmpi .sge (l i) 0#32) (IntOp.cmpi .slt (l i) (BitVec.ofNat 32 128)) = 1#1 := e
  rw [WordCmp.andi_sge_zero_slt_ofNat (by decide)] at e'
  exact (WordCmp.ofBool_decide_eq_one_iff _).1 e'

omit h

/-- The features as reals, and zero off the array. -/
def feat (a k : ℕ) : ℝ := if h : a < 8192 ∧ k < 512 then EReal.toReal (f (ix2 ⟨a, h.1⟩ ⟨k, h.2⟩)) else 0
/-- The labels, and zero off the array. -/
def labs (a : ℕ) : BitVec 32 := if h : a < 8192 then l (ix1 ⟨a, h⟩) else 0#32

theorem feat_at (a : Fin 8192) (k : Fin 512) : feat f a.val k.val = EReal.toReal (f (ix2 a k)) := dif_pos ⟨a.isLt, k.isLt⟩
theorem labs_at (a : Fin 8192) : labs l a.val = l (ix1 a) := dif_pos a.isLt

/-- The idealized kernel and the reference end with the same loss. -/
theorem algebraic : Cert.algebraic_KernelIdeal_ReferenceIdeal_pre_finite_and_classes := by
  intro m g m' g' hp harg
  refine ⟨fun c _ => ((loss (feat (m ((c.tc : Thread Cert.KernelIdeal.nD Cert.KernelIdeal.τ).loc Cert.KernelIdeal.main_arg0)))
    (labs (m ((c.tc : Thread Cert.KernelIdeal.nD Cert.KernelIdeal.τ).loc Cert.KernelIdeal.main_arg1))) : ℝ) : EReal), ?_, ?_⟩
  · refine (θ_run Cert.KernelIdeal.defs _ _).mono (fun r h c => ⟨(h.1 c).1.trans ?_, (h.1 c).2⟩) (Cert.KernelIdeal.Blocks.run_named (F := Ideal) m g)
    refine funext fun j => Cert.KernelIdeal.Blocks.result7 m c _ _ ⟨fun a k => ?_, fun a => ?_, fun a ha => ?_⟩ j
    · rw [feat_at]; exact finite _ _ (hp c) (ix2 a k)
    · exact (labs_at _ a).symm
    · rw [labs_at _ ⟨a, ha⟩]; exact class_lt _ _ (hp c) (ix1 ⟨a, ha⟩)
  · refine (θ_run Cert.ReferenceIdeal.defs _ _).mono (fun r h c => ⟨(h c).1.trans ?_, (h c).2⟩) (Cert.ReferenceIdeal.Value.run (F := Ideal) m' g')
    refine (Cert.ReferenceIdeal.Read.val_main_v42_eq m' c).trans ?_
    rw [(harg c).1, (harg c).2]
    refine funext fun j => Cert.RefValue.result_eq _ _ _ _ (fun i => ?_) (fun i => ?_) j
    · refine (finite _ _ (hp c) i).trans (congrArg (fun v : ℝ => (v : EReal)) ?_)
      exact (congrArg (fun p => EReal.toReal (m ((c.tc : Thread Cert.KernelIdeal.nD Cert.KernelIdeal.τ).loc Cert.KernelIdeal.main_arg0) p)) (eq_ix2 i)).trans (feat_at _ (i 0) (i 1)).symm
    · exact (congrArg _ (eq_ix1 i)).trans (labs_at _ (i 0)).symm

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.IdealRun
public import proofs.«01_k».proof.Proof.BitsRun
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The frames of the three programs, with and without the precondition, the two named constants, and the equal results. -/
theorem claim : Cert.Claim := ⟨Cert.Kernel.Gen.facts, Cert.KernelIdeal.Gen.facts, Cert.ReferenceIdeal.Gen.facts, Cert.Agree.preFacts,
  Cert.Frames.frame_kernel,
  fun m ρ _ => Cert.Frames.frame_ideal m ρ, fun m ρ _ => Cert.Frames.frame_ideal m ρ,
  fun m ρ _ => Cert.Frames.frame_reference m ρ, fun m ρ _ => Cert.Frames.frame_reference m ρ,
  Cert.Frames.preserves, Cert.Agree.algebraic⟩

end Cert.Proof

end
